-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_values [hPre_finite_values : Cert.Pre_finite_values.Facts] (m : (ℓ : Loc Cert.AttnIdeal.nD Cert.AttnIdeal.τ Cert.AttnIdeal.sig) → Buf (Elt Ideal) ℓ) : Prop :=
  ∀ c : Dev Cert.AttnIdeal.nD,
    (Cert.Pre_finite_values.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_values [hPre_finite_values : Cert.Pre_finite_values.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_values.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_rows [hPre_finite_rows : Cert.Pre_finite_rows.Facts] (m : (ℓ : Loc Cert.PrepIdeal.nD Cert.PrepIdeal.τ Cert.PrepIdeal.sig) → Buf (Elt Ideal) ℓ) : Prop :=
  ∀ c : Dev Cert.PrepIdeal.nD,
    (Cert.Pre_finite_rows.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_rows [hPre_finite_rows : Cert.Pre_finite_rows.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_rows.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def Pre_FfnP (m : (ℓ : Loc Cert.FfnP.nD Cert.FfnP.τ Cert.FfnP.sig) → Buf (Elt Bits) ℓ) : Prop :=
  True

def Pre_FfnPIdeal (m : (ℓ : Loc Cert.FfnPIdeal.nD Cert.FfnPIdeal.τ Cert.FfnPIdeal.sig) → Buf (Elt Ideal) ℓ) : Prop :=
  True

def Pre_FfnPRefIdeal (m : (ℓ : Loc Cert.FfnPRefIdeal.nD Cert.FfnPRefIdeal.τ Cert.FfnPRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_values [hAttnIdeal : Cert.AttnIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_values m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_values [hAttnRefIdeal : Cert.AttnRefIdeal.Facts] [hPre_finite_values : Cert.Pre_finite_values.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_values m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_finite_rows [hPrepIdeal : Cert.PrepIdeal.Facts] [hPre_finite_rows : Cert.Pre_finite_rows.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_rows m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_finite_rows [hPrepRefIdeal : Cert.PrepRefIdeal.Facts] [hPre_finite_rows : Cert.Pre_finite_rows.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_rows m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_FfnP [hFfnP : Cert.FfnP.Facts] : Prop :=
  ∀ (m : (ℓ : Loc Cert.FfnP.nD Cert.FfnP.τ Cert.FfnP.sig) → Buf (Elt Bits) ℓ) (g : Dev Cert.FfnP.nD → PrngReg), Pre_FfnP m →
    θ_run (Cert.FfnP.defs (F := Bits)) (onTc (τ := Cert.FfnP.τ) (Cert.FfnP.main (F := Bits))) ⟨m, fun _ => 0, g⟩ (fun r => (∀ c : Dev Cert.FfnP.nD,
      r.2.mem ((c.tc : Thread Cert.FfnP.nD Cert.FfnP.τ).loc Cert.FfnP.main_arg0) = m ((c.tc : Thread Cert.FfnP.nD Cert.FfnP.τ).loc Cert.FfnP.main_arg0)
      ∧ r.2.mem ((c.tc : Thread Cert.FfnP.nD Cert.FfnP.τ).loc Cert.FfnP.main_arg1) = m ((c.tc : Thread Cert.FfnP.nD Cert.FfnP.τ).loc Cert.FfnP.main_arg1)
      ∧ r.2.mem ((c.tc : Thread Cert.FfnP.nD Cert.FfnP.τ).loc Cert.FfnP.main_arg2) = m ((c.tc : Thread Cert.FfnP.nD Cert.FfnP.τ).loc Cert.FfnP.main_arg2)
      ∧ r.2.mem ((c.tc : Thread Cert.FfnP.nD Cert.FfnP.τ).loc Cert.FfnP.main_arg3) = m ((c.tc : Thread Cert.FfnP.nD Cert.FfnP.τ).loc Cert.FfnP.main_arg3)
      ∧ r.2.mem ((c.tc : Thread Cert.FfnP.nD Cert.FfnP.τ).loc Cert.FfnP.main_arg4) = m ((c.tc : Thread Cert.FfnP.nD Cert.FfnP.τ).loc Cert.FfnP.main_arg4)
      ∧ r.2.mem ((c.tc : Thread Cert.FfnP.nD Cert.FfnP.τ).loc Cert.FfnP.main_arg5) = m ((c.tc : Thread Cert.FfnP.nD Cert.FfnP.τ).loc Cert.FfnP.main_arg5))
      ∧ r.2.sem = fun _ => 0)

def quiescent_FfnPIdeal [hFfnPIdeal : Cert.FfnPIdeal.Facts] : Prop :=
  ∀ (m : (ℓ : Loc Cert.FfnPIdeal.nD Cert.FfnPIdeal.τ Cert.FfnPIdeal.sig) → Buf (Elt Ideal) ℓ) (g : Dev Cert.FfnPIdeal.nD → PrngReg), Pre_FfnPIdeal m →
    θ_run (Cert.FfnPIdeal.defs (F := Ideal)) (onTc (τ := Cert.FfnPIdeal.τ) (Cert.FfnPIdeal.main (F := Ideal))) ⟨m, fun _ => 0, g⟩ (fun r => (∀ c : Dev Cert.FfnPIdeal.nD,
      r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
      ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
      ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
      ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
      ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4)
      ∧ r.2.mem ((c.tc : Thread Cert.FfnPIdeal.nD Cert.FfnPIdeal.τ).loc Cert.FfnPIdeal.main_arg5) = m ((c.tc : Thread Cert.FfnPIdeal.nD Cert.FfnPIdeal.τ).loc Cert.FfnPIdeal.main_arg5))
      ∧ r.2.sem = fun _ => 0)

def quiescent_FfnPRefIdeal [hFfnPRefIdeal : Cert.FfnPRefIdeal.Facts] : Prop :=
  ∀ (m : (ℓ : Loc Cert.FfnPRefIdeal.nD Cert.FfnPRefIdeal.τ Cert.FfnPRefIdeal.sig) → Buf (Elt Ideal) ℓ) (g : Dev Cert.FfnPRefIdeal.nD → PrngReg), Pre_FfnPRefIdeal m →
    θ_run (Cert.FfnPRefIdeal.defs (F := Ideal)) (onTc (τ := Cert.FfnPRefIdeal.τ) (Cert.FfnPRefIdeal.main (F := Ideal))) ⟨m, fun _ => 0, g⟩ (fun r => (∀ c : Dev Cert.FfnPRefIdeal.nD,
      r.2.mem ((c.tc : Thread Cert.FfnPRefIdeal.nD Cert.FfnPRefIdeal.τ).loc Cert.FfnPRefIdeal.main_arg0) = m ((c.tc : Thread Cert.FfnPRefIdeal.nD Cert.FfnPRefIdeal.τ).loc Cert.FfnPRefIdeal.main_arg0)
      ∧ r.2.mem ((c.tc : Thread Cert.FfnPRefIdeal.nD Cert.FfnPRefIdeal.τ).loc Cert.FfnPRefIdeal.main_arg1) = m ((c.tc : Thread Cert.FfnPRefIdeal.nD Cert.FfnPRefIdeal.τ).loc Cert.FfnPRefIdeal.main_arg1)
      ∧ r.2.mem ((c.tc : Thread Cert.FfnPRefIdeal.nD Cert.FfnPRefIdeal.τ).loc Cert.FfnPRefIdeal.main_arg2) = m ((c.tc : Thread Cert.FfnPRefIdeal.nD Cert.FfnPRefIdeal.τ).loc Cert.FfnPRefIdeal.main_arg2)
      ∧ r.2.mem ((c.tc : Thread Cert.FfnPRefIdeal.nD Cert.FfnPRefIdeal.τ).loc Cert.FfnPRefIdeal.main_arg3) = m ((c.tc : Thread Cert.FfnPRefIdeal.nD Cert.FfnPRefIdeal.τ).loc Cert.FfnPRefIdeal.main_arg3)
      ∧ r.2.mem ((c.tc : Thread Cert.FfnPRefIdeal.nD Cert.FfnPRefIdeal.τ).loc Cert.FfnPRefIdeal.main_arg4) = m ((c.tc : Thread Cert.FfnPRefIdeal.nD Cert.FfnPRefIdeal.τ).loc Cert.FfnPRefIdeal.main_arg4)
      ∧ r.2.mem ((c.tc : Thread Cert.FfnPRefIdeal.nD Cert.FfnPRefIdeal.τ).loc Cert.FfnPRefIdeal.main_arg5) = m ((c.tc : Thread Cert.FfnPRefIdeal.nD Cert.FfnPRefIdeal.τ).loc Cert.FfnPRefIdeal.main_arg5))
      ∧ r.2.sem = fun _ => 0)

def preserves_Attn_AttnIdeal : Prop :=
  True

def algebraic_AttnIdeal_AttnRefIdeal_pre_finite_values [hAttnIdeal : Cert.AttnIdeal.Facts] [hAttnRefIdeal : Cert.AttnRefIdeal.Facts] [hPre_finite_values : Cert.Pre_finite_values.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_values m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v13) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v32) = v0 c
          ∧ r.2.mem ((c.tc : Thread Cert.OutProjRefIdeal.nD Cert.OutProjRefIdeal.τ).loc Cert.OutProjRefIdeal.main_v34) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Prep_PrepIdeal : Prop :=
  IdealRules.named_const.Statement Cert.PrepIdeal.κ "q_scale" .f32 0x3E38AA3B#32 ((8⁻¹ * (Real.log 2)⁻¹ : ℝ) : EReal)

def algebraic_PrepIdeal_PrepRefIdeal_pre_finite_rows [hPrepIdeal : Cert.PrepIdeal.Facts] [hPrepRefIdeal : Cert.PrepRefIdeal.Facts] [hPre_finite_rows : Cert.Pre_finite_rows.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_rows m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v9_0)) (v1 : (c : Dev Cert.PrepIdeal.nD) → Buf (Elt Ideal) ((c.tc : Thread Cert.PrepIdeal.nD Cert.PrepIdeal.τ).loc Cert.PrepIdeal.main_v9_1)) (v2 : (c : Dev Cert.PrepIdeal.nD) → Buf (Elt Ideal) ((c.tc : Thread Cert.PrepIdeal.nD Cert.PrepIdeal.τ).loc Cert.PrepIdeal.main_v9_2)) (v3 : (c : Dev Cert.PrepIdeal.nD) → Buf (Elt Ideal) ((c.tc : Thread Cert.PrepIdeal.nD Cert.PrepIdeal.τ).loc Cert.PrepIdeal.main_v0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v9_0) = v0 c
          ∧ r.2.mem ((c.tc : Thread Cert.PrepIdeal.nD Cert.PrepIdeal.τ).loc Cert.PrepIdeal.main_v9_1) = v1 c
          ∧ r.2.mem ((c.tc : Thread Cert.PrepIdeal.nD Cert.PrepIdeal.τ).loc Cert.PrepIdeal.main_v9_2) = v2 c
          ∧ r.2.mem ((c.tc : Thread Cert.PrepIdeal.nD Cert.PrepIdeal.τ).loc Cert.PrepIdeal.main_v0) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v38) = v0 c
          ∧ r.2.mem ((c.tc : Thread Cert.PrepRefIdeal.nD Cert.PrepRefIdeal.τ).loc Cert.PrepRefIdeal.main_v39) = v1 c
          ∧ r.2.mem ((c.tc : Thread Cert.PrepRefIdeal.nD Cert.PrepRefIdeal.τ).loc Cert.PrepRefIdeal.main_v37) = v2 c
          ∧ r.2.mem ((c.tc : Thread Cert.PrepRefIdeal.nD Cert.PrepRefIdeal.τ).loc Cert.PrepRefIdeal.main_v4) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_FfnP_FfnPIdeal : Prop :=
  True

def algebraic_FfnPIdeal_FfnPRefIdeal [hFfnPIdeal : Cert.FfnPIdeal.Facts] [hFfnPRefIdeal : Cert.FfnPRefIdeal.Facts] : Prop :=
  ∀ (m : (ℓ : Loc Cert.FfnPIdeal.nD Cert.FfnPIdeal.τ Cert.FfnPIdeal.sig) → Buf (Elt Ideal) ℓ) (g : Dev Cert.FfnPIdeal.nD → PrngReg)
    (m' : (ℓ : Loc Cert.FfnPRefIdeal.nD Cert.FfnPRefIdeal.τ Cert.FfnPRefIdeal.sig) → Buf (Elt Ideal) ℓ) (g' : Dev Cert.FfnPRefIdeal.nD → PrngReg), Pre_FfnPIdeal m →
    (∀ c : Dev Cert.FfnPIdeal.nD,
      m' ((c.tc : Thread Cert.FfnPRefIdeal.nD Cert.FfnPRefIdeal.τ).loc Cert.FfnPRefIdeal.main_arg0) = m ((c.tc : Thread Cert.FfnPIdeal.nD Cert.FfnPIdeal.τ).loc Cert.FfnPIdeal.main_arg0)
      ∧ m' ((c.tc : Thread Cert.FfnPRefIdeal.nD Cert.FfnPRefIdeal.τ).loc Cert.FfnPRefIdeal.main_arg1) = m ((c.tc : Thread Cert.FfnPIdeal.nD Cert.FfnPIdeal.τ).loc Cert.FfnPIdeal.main_arg1)
      ∧ m' ((c.tc : Thread Cert.FfnPRefIdeal.nD Cert.FfnPRefIdeal.τ).loc Cert.FfnPRefIdeal.main_arg2) = m ((c.tc : Thread Cert.FfnPIdeal.nD Cert.FfnPIdeal.τ).loc Cert.FfnPIdeal.main_arg2)
      ∧ m' ((c.tc : Thread Cert.FfnPRefIdeal.nD Cert.FfnPRefIdeal.τ).loc Cert.FfnPRefIdeal.main_arg3) = m ((c.tc : Thread Cert.FfnPIdeal.nD Cert.FfnPIdeal.τ).loc Cert.FfnPIdeal.main_arg3)
      ∧ m' ((c.tc : Thread Cert.FfnPRefIdeal.nD Cert.FfnPRefIdeal.τ).loc Cert.FfnPRefIdeal.main_arg4) = m ((c.tc : Thread Cert.FfnPIdeal.nD Cert.FfnPIdeal.τ).loc Cert.FfnPIdeal.main_arg4)
      ∧ m' ((c.tc : Thread Cert.FfnPRefIdeal.nD Cert.FfnPRefIdeal.τ).loc Cert.FfnPRefIdeal.main_arg5) = m ((c.tc : Thread Cert.FfnPIdeal.nD Cert.FfnPIdeal.τ).loc Cert.FfnPIdeal.main_arg5)) →
    ∃ (v0 : (c : Dev Cert.FfnPIdeal.nD) → Buf (Elt Ideal) ((c.tc : Thread Cert.FfnPIdeal.nD Cert.FfnPIdeal.τ).loc Cert.FfnPIdeal.main_v4)),
      θ_run (Cert.FfnPIdeal.defs (F := Ideal)) (onTc (τ := Cert.FfnPIdeal.τ) (Cert.FfnPIdeal.main (F := Ideal))) ⟨m, fun _ => 0, g⟩ (fun r => ∀ c : Dev Cert.FfnPIdeal.nD,
          r.2.mem ((c.tc : Thread Cert.FfnPIdeal.nD Cert.FfnPIdeal.τ).loc Cert.FfnPIdeal.main_v4) = v0 c
          ∧ r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
          ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
          ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
          ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
          ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4)
          ∧ r.2.mem ((c.tc : Thread Cert.FfnPIdeal.nD Cert.FfnPIdeal.τ).loc Cert.FfnPIdeal.main_arg5) = m ((c.tc : Thread Cert.FfnPIdeal.nD Cert.FfnPIdeal.τ).loc Cert.FfnPIdeal.main_arg5))
      ∧ θ_run (Cert.FfnPRefIdeal.defs (F := Ideal)) (onTc (τ := Cert.FfnPRefIdeal.τ) (Cert.FfnPRefIdeal.main (F := Ideal))) ⟨m', fun _ => 0, g'⟩ (fun r => ∀ c : Dev Cert.FfnPRefIdeal.nD,
          r.2.mem ((c.tc : Thread Cert.FfnPRefIdeal.nD Cert.FfnPRefIdeal.τ).loc Cert.FfnPRefIdeal.main_v13) = v0 c
          ∧ r.2.mem ((c.tc : Thread Cert.FfnPRefIdeal.nD Cert.FfnPRefIdeal.τ).loc Cert.FfnPRefIdeal.main_arg0) = m' ((c.tc : Thread Cert.FfnPRefIdeal.nD Cert.FfnPRefIdeal.τ).loc Cert.FfnPRefIdeal.main_arg0)
          ∧ r.2.mem ((c.tc : Thread Cert.FfnPRefIdeal.nD Cert.FfnPRefIdeal.τ).loc Cert.FfnPRefIdeal.main_arg1) = m' ((c.tc : Thread Cert.FfnPRefIdeal.nD Cert.FfnPRefIdeal.τ).loc Cert.FfnPRefIdeal.main_arg1)
          ∧ r.2.mem ((c.tc : Thread Cert.FfnPRefIdeal.nD Cert.FfnPRefIdeal.τ).loc Cert.FfnPRefIdeal.main_arg2) = m' ((c.tc : Thread Cert.FfnPRefIdeal.nD Cert.FfnPRefIdeal.τ).loc Cert.FfnPRefIdeal.main_arg2)
          ∧ r.2.mem ((c.tc : Thread Cert.FfnPRefIdeal.nD Cert.FfnPRefIdeal.τ).loc Cert.FfnPRefIdeal.main_arg3) = m' ((c.tc : Thread Cert.FfnPRefIdeal.nD Cert.FfnPRefIdeal.τ).loc Cert.FfnPRefIdeal.main_arg3)
          ∧ r.2.mem ((c.tc : Thread Cert.FfnPRefIdeal.nD Cert.FfnPRefIdeal.τ).loc Cert.FfnPRefIdeal.main_arg4) = m' ((c.tc : Thread Cert.FfnPRefIdeal.nD Cert.FfnPRefIdeal.τ).loc Cert.FfnPRefIdeal.main_arg4)
          ∧ r.2.mem ((c.tc : Thread Cert.FfnPRefIdeal.nD Cert.FfnPRefIdeal.τ).loc Cert.FfnPRefIdeal.main_arg5) = m' ((c.tc : Thread Cert.FfnPRefIdeal.nD Cert.FfnPRefIdeal.τ).loc Cert.FfnPRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPrep : Cert.Prep.Facts) (hPrepIdeal : Cert.PrepIdeal.Facts) (hPrepRefIdeal : Cert.PrepRefIdeal.Facts) (hFfnP : Cert.FfnP.Facts) (hFfnPIdeal : Cert.FfnPIdeal.Facts) (hFfnPRefIdeal : Cert.FfnPRefIdeal.Facts) (hPre_finite_values : Cert.Pre_finite_values.Facts) (hPre_finite_rows : Cert.Pre_finite_rows.Facts),
    quiescent_Attn (hAttn := hAttn)
    ∧ quiescent_AttnIdeal (hAttnIdeal := hAttnIdeal)
    ∧ quiescent_AttnIdeal_pre_finite_values (hAttnIdeal := hAttnIdeal) (hPre_finite_values := hPre_finite_values)
    ∧ quiescent_AttnRefIdeal (hAttnRefIdeal := hAttnRefIdeal)
    ∧ quiescent_AttnRefIdeal_pre_finite_values (hAttnRefIdeal := hAttnRefIdeal) (hPre_finite_values := hPre_finite_values)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Prep (hPrep := hPrep)
    ∧ quiescent_PrepIdeal (hPrepIdeal := hPrepIdeal)
    ∧ quiescent_PrepIdeal_pre_finite_rows (hPrepIdeal := hPrepIdeal) (hPre_finite_rows := hPre_finite_rows)
    ∧ quiescent_PrepRefIdeal (hPrepRefIdeal := hPrepRefIdeal)
    ∧ quiescent_PrepRefIdeal_pre_finite_rows (hPrepRefIdeal := hPrepRefIdeal) (hPre_finite_rows := hPre_finite_rows)
    ∧ quiescent_FfnP (hFfnP := hFfnP)
    ∧ quiescent_FfnPIdeal (hFfnPIdeal := hFfnPIdeal)
    ∧ quiescent_FfnPRefIdeal (hFfnPRefIdeal := hFfnPRefIdeal)
    ∧ preserves_Attn_AttnIdeal
    ∧ algebraic_AttnIdeal_AttnRefIdeal_pre_finite_values (hAttnIdeal := hAttnIdeal) (hAttnRefIdeal := hAttnRefIdeal) (hPre_finite_values := hPre_finite_values)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Prep_PrepIdeal
    ∧ algebraic_PrepIdeal_PrepRefIdeal_pre_finite_rows (hPrepIdeal := hPrepIdeal) (hPrepRefIdeal := hPrepRefIdeal) (hPre_finite_rows := hPre_finite_rows)
    ∧ preserves_FfnP_FfnPIdeal
    ∧ algebraic_FfnPIdeal_FfnPRefIdeal (hFfnPIdeal := hFfnPIdeal) (hFfnPRefIdeal := hFfnPRefIdeal)
-- ==== Pre_finite_rows.lean ====
abbrev S8192x5120 : Shape := ⟨2, ![8192, 5120]⟩
abbrev S64 : Shape := ⟨1, ![64]⟩
abbrev S8192x2048 : Shape := ⟨2, ![8192, 2048]⟩
abbrev S_ : Shape := ⟨0, ![]⟩

class Facts : Prop where
  slices_S8192x5120_S8192x2048_0_0 : S8192x5120.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x5120 .f32) (main_arg1 : FVec F S64 .f32) (main_arg2 : FVec F S64 .f32) : IVec S_ 1 :=
  let main_v0 : FVec F S8192x2048 .f32 := (extractStridedSlice S8192x2048 ![0, 0] · slices_S8192x5120_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  main_v4
-- ==== Pre_finite_values.lean ====
abbrev S32768x1024 : Shape := ⟨2, ![32768, 1024]⟩
abbrev S32768x5120 : Shape := ⟨2, ![32768, 5120]⟩
abbrev S8x2x256x8x2x64 : Shape := ⟨6, ![8, 2, 256, 8, 2, 64]⟩
abbrev S8x2x256x8x128 : Shape := ⟨5, ![8, 2, 256, 8, 128]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  slices_S32768x5120_S32768x1024_0_2048 : S32768x5120.Slices ![0, 2048] S32768x1024
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x2x256x8x128 : S_.BroadcastsInDim S8x2x256x8x128 (![] : Fin 0 → Fin S8x2x256x8x128.rank)
  reducesTo_S8x2x256x8x128_S_d0_1_2_3_4 : S8x2x256x8x128.ReducesTo [0, 1, 2, 3, 4] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x1024 .bf16) (main_arg1 : FVec F S32768x1024 .bf16) (main_arg2 : FVec F S32768x5120 .bf16) (main_arg3 : FVec F S8x2x256x8x2x64 .f32) (main_arg4 : FVec F S8x2x256x8x128 .f32) (main_arg5 : FVec F S4x64 .f32) (main_arg6 : FVec F S128 .f32) : IVec S_ 1 :=
  let main_v0 : FVec F S32768x5120 .f32 := (extf .f32 · bitsLt_bf16_f32) main_arg2
  let main_v1 : FVec F S32768x1024 .f32 := (extractStridedSlice S32768x1024 ![0, 2048] · slices_S32768x5120_S32768x1024_0_2048) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S8x2x256x8x128 .f32 := Host.absf main_arg4
  let main_cst_0 : FVec F S_ .f32 := constant S_ .f32 0x7F800000#32
  let main_v7 : FVec F S8x2x256x8x128 .f32 := broadcastInDim S8x2x256x8x128 ![] bcast_S_S8x2x256x8x128 main_cst_0
  let main_v8 : IVec S8x2x256x8x128 1 := cmpf .olt main_v6 main_v7
  let main_c_1 : IVec S_ 1 := constantI S_ 1 1#1
  let main_v9 : IVec S_ 1 := (fun x v => Host.reduce IntOp.andi x v reducesTo_S8x2x256x8x128_S_d0_1_2_3_4 h_S_) main_v8 main_c_1
  let main_v10 : IVec S_ 1 := andi main_v5 main_v9
  let main_v11 : FVec F S4x64 .f32 := Host.absf main_arg5
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Attn.lean ====
abbrev S32768x1024 : Shape := ⟨2, ![32768, 1024]⟩
abbrev S32768x5120 : Shape := ⟨2, ![32768, 5120]⟩
abbrev S8x2x256x8x2x64 : Shape := ⟨6, ![8, 2, 256, 8, 2, 64]⟩
abbrev S8x2x256x8x128 : Shape := ⟨5, ![8, 2, 256, 8, 128]⟩
abbrev S4x64 : Shape := ⟨2, ![4, 64]⟩
abbrev S128 : Shape := ⟨1, ![128]⟩
abbrev S8x2x256x1024 : Shape := ⟨4, ![8, 2, 256, 1024]⟩
abbrev S1x128 : Shape := ⟨2, ![1, 128]⟩
abbrev S512x128 : Shape := ⟨2, ![512, 128]⟩
abbrev S4096x128 : Shape := ⟨2, ![4096, 128]⟩
abbrev S1x1x256x128 : Shape := ⟨4, ![1, 1, 256, 128]⟩
abbrev S1024x4352 : Shape := ⟨2, ![1024, 4352]⟩
abbrev S4352x128 : Shape := ⟨2, ![4352, 128]⟩
abbrev S1024x128 : Shape := ⟨2, ![1024, 128]⟩
abbrev S1024x256 : Shape := ⟨2, ![1024, 256]⟩
abbrev S256x128 : Shape := ⟨2, ![256, 128]⟩
abbrev S2304x128 : Shape := ⟨2, ![2304, 128]⟩
abbrev S1024x2304 : Shape := ⟨2, ![1024, 2304]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2304x256 : Shape := ⟨2, ![2304, 256]⟩
abbrev S2048x256 : Shape := ⟨2, ![2048, 256]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .bf16⟩
  | .hbm, ⟨3, _⟩ => ⟨S8x2x256x8x2x64, .f32⟩
  | .hbm, ⟨4, _⟩ => ⟨S8x2x256x8x128, .f32⟩
  | .hbm, ⟨5, _⟩ => ⟨S4x64, .f32⟩
  | .hbm, ⟨6, _⟩ => ⟨S128, .f32⟩
  | .hbm, ⟨7, _⟩ => ⟨S8x2x256x1024, .f32⟩
  | .hbm, ⟨8, _⟩ => ⟨S8x2x256x1024, .f32⟩
  | .hbm, ⟨9, _⟩ => ⟨S1x128, .f32⟩
  | .hbm, ⟨10, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | .local _ .vmem, ⟨14, _⟩ => ⟨S1024x4352, .f32⟩
  | .local _ .vmem, ⟨15, _⟩ => ⟨S4352x128, .bf16⟩
  | .local _ .vmem, ⟨16, _⟩ => ⟨S4352x128, .bf16⟩
  | .local _ .vmem, ⟨17, _⟩ => ⟨S1024x128, .f32⟩
  | .local _ .vmem, ⟨18, _⟩ => ⟨S1024x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_5 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v15 : BitVec 32 := Scalar.subi v14 c0_i32_5
  let c1_i32_6 : BitVec 32 := 1#32
  let v17 : BitVec 32 := Scalar.divsi v15 c1_i32_6
  let v18 : BitVec 32 := Scalar.muli v17 c1_i32_6
  let v19 : BitVec 32 := Scalar.addi c0_i32_5 v18
  let c1_i32_7 : BitVec 32 := 1#32
  ⟨c0_i32_5, v19, c1_i32_7⟩
@[reducible] def k0_t2_loop (i : grid0.Coords) : Scf.Loop 32 :=
  let c0_i32_5 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v15 : BitVec 32 := Scalar.subi v14 c0_i32_5
  let c1_i32_6 : BitVec 32 := 1#32
  let v17 : BitVec 32 := Scalar.divsi v15 c1_i32_6
  let v18 : BitVec 32 := Scalar.muli v17 c1_i32_6
  let v19 : BitVec 32 := Scalar.addi c0_i32_5 v18
  let v16 : BitVec 32 := Scalar.addi c0_i32_5 v15
  let c1_i32_8 : BitVec 32 := 1#32
  ⟨v19, v16, c1_i32_8⟩
@[reducible] def k0_t3_loop (i : grid0.Coords) : Scf.Loop 32 :=
  let c0_i32_10 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v20 : BitVec 32 := Scalar.subi v14 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_12 : BitVec 32 := 1#32
  ⟨c0_i32_10, v24, c1_i32_12⟩
@[reducible] def k0_t4_loop (i : grid0.Coords) : Scf.Loop 32 :=
  let c0_i32_10 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v20 : BitVec 32 := Scalar.subi v14 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let v21 : BitVec 32 := Scalar.addi c0_i32_10 v20
  let c1_i32_13 : BitVec 32 := 1#32
  ⟨v24, v21, c1_i32_13⟩
@[reducible] def k0_t5_loop (i : grid0.Coords) : Scf.Loop 32 :=
  let c0_i32_15 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v25 : BitVec 32 := Scalar.subi v14 c0_i32_15
  let c1_i32_16 : BitVec 32 := 1#32
  let v27 : BitVec 32 := Scalar.divsi v25 c1_i32_16
  let v28 : BitVec 32 := Scalar.muli v27 c1_i32_16
  let v29 : BitVec 32 := Scalar.addi c0_i32_15 v28
  let c1_i32_17 : BitVec 32 := 1#32
  ⟨c0_i32_15, v29, c1_i32_17⟩
@[reducible] def k0_t6_loop (i : grid0.Coords) : Scf.Loop 32 :=
  let c0_i32_15 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v25 : BitVec 32 := Scalar.subi v14 c0_i32_15
  let c1_i32_16 : BitVec 32 := 1#32
  let v27 : BitVec 32 := Scalar.divsi v25 c1_i32_16
  let v28 : BitVec 32 := Scalar.muli v27 c1_i32_16
  let v29 : BitVec 32 := Scalar.addi c0_i32_15 v28
  let v26 : BitVec 32 := Scalar.addi c0_i32_15 v25
  let c1_i32_18 : BitVec 32 := 1#32
  ⟨v29, v26, c1_i32_18⟩
@[reducible] def k0_t7_loop (i : grid0.Coords) : Scf.Loop 32 :=
  let c0_i32_20 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v30 : BitVec 32 := Scalar.subi v14 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_22 : BitVec 32 := 1#32
  ⟨c0_i32_20, v34, c1_i32_22⟩
@[reducible] def k0_t8_loop (i : grid0.Coords) : Scf.Loop 32 :=
  let c0_i32_20 : BitVec 32 := 0#32
  let arg2 : BitVec 32 := BitVec.ofNat 32 (i 2).val
  let c0_i32_3 : BitVec 32 := 0#32
  let v13 : BitVec 32 := Scalar.minsi arg2 c0_i32_3
  let c1_i32 : BitVec 32 := 1#32
  let v14 : BitVec 32 := Scalar.addi v13 c1_i32
  let v30 : BitVec 32 := Scalar.subi v14 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let v31 : BitVec 32 := Scalar.addi c0_i32_20 v30
  let c1_i32_23 : BitVec 32 := 1#32
  ⟨v34, v31, c1_i32_23⟩
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S32768x1024 : Shape := ⟨2, ![32768, 1024]⟩
abbrev S32768x5120 : Shape := ⟨2, ![32768, 5120]⟩
abbrev S8x2x256x8x2x64 : Shape := ⟨6, ![8, 2, 256, 8, 2, 64]⟩
abbrev S8x2x256x8x128 : Shape := ⟨5, ![8, 2, 256, 8, 128]⟩
abbrev S4x64 : Shape := ⟨2, ![4, 64]⟩
abbrev S128 : Shape := ⟨1, ![128]⟩
abbrev S8x4096x8x2x64 : Shape := ⟨5, ![8, 4096, 8, 2, 64]⟩
abbrev S8x4096x8x128 : Shape := ⟨4, ![8, 4096, 8, 128]⟩
abbrev S8x1x256x8x2x64 : Shape := ⟨6, ![8, 1, 256, 8, 2, 64]⟩
abbrev S8x256x8x2x64 : Shape := ⟨5, ![8, 256, 8, 2, 64]⟩
abbrev S8x4352x8x2x64 : Shape := ⟨5, ![8, 4352, 8, 2, 64]⟩
abbrev S8x1x256x8x128 : Shape := ⟨5, ![8, 1, 256, 8, 128]⟩
abbrev S8x256x8x128 : Shape := ⟨4, ![8, 256, 8, 128]⟩
abbrev S8x4352x8x128 : Shape := ⟨4, ![8, 4352, 8, 128]⟩
abbrev S1x64 : Shape := ⟨2, ![1, 64]⟩
abbrev S64 : Shape := ⟨1, ![64]⟩
abbrev S_ : Shape := ⟨0, ![]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .bf16⟩
  | .hbm, ⟨3, _⟩ => ⟨S8x2x256x8x2x64, .f32⟩
  | .hbm, ⟨4, _⟩ => ⟨S8x2x256x8x128, .f32⟩
  | .hbm, ⟨5, _⟩ => ⟨S4x64, .f32⟩
  | .hbm, ⟨6, _⟩ => ⟨S128, .f32⟩
  | .hbm, ⟨7, _⟩ => ⟨S32768x1024, .f32⟩
  | .hbm, ⟨8, _⟩ => ⟨S8x4096x8x2x64, .f32⟩
  | .hbm, ⟨9, _⟩ => ⟨S32768x1024, .f32⟩
  | .hbm, ⟨10, _⟩ => ⟨S8x4096x8x2x64, .f32⟩
  | .hbm, ⟨11, _⟩ => ⟨S32768x5120, .f32⟩
  | .hbm, ⟨12, _⟩ => ⟨S32768x1024, .f32⟩
  | .hbm, ⟨13, _⟩ => ⟨S8x4096x8x128, .f32⟩
  | .hbm, ⟨14, _⟩ => ⟨S8x1x256x8x2x64, .f32⟩
  | .hbm, ⟨15, _⟩ => ⟨S8x256x8x2x64, .f32⟩
  | .hbm, ⟨16, _⟩ => ⟨S8x4352x8x2x64, .f32⟩
  | .hbm, ⟨17, _⟩ => ⟨S8x1x256x8x128, .f32⟩
  | .hbm, ⟨18, _⟩ => ⟨S8x256x8x128, .f32⟩
  | .hbm, ⟨19, _⟩ => ⟨S8x4352x8x128, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x8x2x4096x4352, .f32⟩
  | .hbm, ⟨40, _⟩ => ⟨S_, .f32⟩
  | .hbm, ⟨41, _⟩ => ⟨S_, .f32⟩
  | .hbm, ⟨42, _⟩ => ⟨S8x8x2x4096x4352, .f32⟩
  | .hbm, ⟨43, _⟩ => ⟨S8x8x2x4096x4352, .f32⟩
  | .hbm, ⟨44, _⟩ => ⟨S_, .f32⟩
  | .hbm, ⟨45, _⟩ => ⟨S8x8x2x4096, .f32⟩
  | .hbm, ⟨46, _⟩ => ⟨S_, .f32⟩
  | .hbm, ⟨47, _⟩ => ⟨S8x8x2x4096, .f32⟩
  | .hbm, ⟨48, _⟩ => ⟨S8x8x2x4096, .f32⟩
  | .hbm, ⟨49, _⟩ => ⟨S8x8x2x4096x1, .f32⟩
  | .hbm, ⟨50, _⟩ => ⟨S8x8x2x4096x4352, .f32⟩
  | .hbm, ⟨51, _⟩ => ⟨S8x8x2x4096x4352, .f32⟩
  | .hbm, ⟨52, _⟩ => ⟨S8x8x2x4096x4352, .f32⟩
  | .hbm, ⟨53, _⟩ => ⟨S_, .f32⟩
  | .hbm, ⟨54, _⟩ => ⟨S8x8x2x4096, .f32⟩
  | .hbm, ⟨55, _⟩ => ⟨S8x8x2x4096x1, .f32⟩
  | .hbm, ⟨56, _⟩ => ⟨S8x8x2x4096x4352, .f32⟩
  | .hbm, ⟨57, _⟩ => ⟨S8x8x2x4096x4352, .f32⟩
  | .hbm, ⟨58, _⟩ => ⟨S8x8x1x4096x4352, .f32⟩
  | .hbm, ⟨59, _⟩ => ⟨S8x8x4096x4352, .f32⟩
  | .hbm, ⟨60, _⟩ => ⟨S8x8x1x4096x4352, .f32⟩
  | .hbm, ⟨61, _⟩ => ⟨S8x8x4096x4352, .f32⟩
  | .hbm, ⟨62, _⟩ => ⟨S8x8x4096x4352, .f32⟩
  | .hbm, ⟨63, _⟩ => ⟨S8x8x4096x4352, .f32⟩
  | .hbm, ⟨64, _⟩ => ⟨S8x8x4096x4352, .f32⟩
  | .hbm, ⟨65, _⟩ => ⟨S8x8x128x4096, .f32⟩
  | .hbm, ⟨66, _⟩ => ⟨S8x4096x8x128, .f32⟩
  | .hbm, ⟨67, _⟩ => ⟨S8x4096x8x128, .f32⟩
  | .hbm, ⟨68, _⟩ => ⟨S_, .f32⟩
  | .hbm, ⟨69, _⟩ => ⟨S8x4096x8, .f32⟩
  | .hbm, ⟨70, _⟩ => ⟨S8x4096x8x1, .f32⟩
  | .hbm, ⟨71, _⟩ => ⟨S_, .f32⟩
  | .hbm, ⟨72, _⟩ => ⟨S8x4096x8x1, .f32⟩
  | .hbm, ⟨73, _⟩ => ⟨S8x4096x8x1, .f32⟩
  | .hbm, ⟨74, _⟩ => ⟨S_, .f32⟩
  | .hbm, ⟨75, _⟩ => ⟨S8x4096x8x1, .f32⟩
  | .hbm, ⟨76, _⟩ => ⟨S8x4096x8x1, .f32⟩
  | .hbm, ⟨77, _⟩ => ⟨S8x4096x8x1, .f32⟩
  | .hbm, ⟨78, _⟩ => ⟨S8x4096x8x128, .f32⟩
  | .hbm, ⟨79, _⟩ => ⟨S8x4096x8x128, .f32⟩
  | .hbm, ⟨80, _⟩ => ⟨S1x1x1x128, .f32⟩
  | .hbm, ⟨81, _⟩ => ⟨S8x4096x8x128, .f32⟩
  | .hbm, ⟨82, _⟩ => ⟨S8x4096x8x128, .f32⟩
  | .hbm, ⟨83, _⟩ => ⟨S_, .f32⟩
  | .hbm, ⟨84, _⟩ => ⟨S8x4096x8x128, .f32⟩
  | .hbm, ⟨85, _⟩ => ⟨S8x4096x8x128, .f32⟩
  | .hbm, ⟨86, _⟩ => ⟨S32768x1024, .f32⟩
  | .hbm, ⟨87, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Ffn.lean ====
abbrev S32768x2048 : Shape := ⟨2, ![32768, 2048]⟩
abbrev S2048x5632 : Shape := ⟨2, ![2048, 5632]⟩
abbrev S5632x2048 : Shape := ⟨2, ![5632, 2048]⟩
abbrev S16x12288 : Shape := ⟨2, ![16, 12288]⟩
abbrev S96x1x2048 : Shape := ⟨3, ![96, 1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16x12288, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S96x1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c5_i32 : BitVec 32 := 5#32
  let v20 : BitVec 32 := Scalar.addi v19 c5_i32
  let c0_i32_5 : BitVec 32 := 0#32
  let c0_i32_6 : BitVec 32 := 0#32
  let c0_i32_7 : BitVec 32 := 0#32
  ![v20.toNat, c0_i32_5.toNat, c0_i32_6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S2048x5632 : Shape := ⟨2, ![2048, 5632]⟩
abbrev S5632x2048 : Shape := ⟨2, ![5632, 2048]⟩
abbrev S16x12288 : Shape := ⟨2, ![16, 12288]⟩
abbrev S8x2048 : Shape := ⟨2, ![8, 2048]⟩
abbrev S8x1x2048 : Shape := ⟨3, ![8, 1, 2048]⟩
abbrev S8x4096x2048 : Shape := ⟨3, ![8, 4096, 2048]⟩
abbrev S8x4096x5632 : Shape := ⟨3, ![8, 4096, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16x12288, .f32⟩
  | .hbm, ⟨6, _⟩ => ⟨S8x2048, .f32⟩
  | .hbm, ⟨7, _⟩ => ⟨S8x1x2048, .f32⟩
  | .hbm, ⟨8, _⟩ => ⟨S32768x2048, .f32⟩
  | .hbm, ⟨9, _⟩ => ⟨S8x4096x2048, .f32⟩
  | .hbm, ⟨10, _⟩ => ⟨S8x4096x5632, .f32⟩
  | .hbm, ⟨11, _⟩ => ⟨S8x4096x5632, .f32⟩
  | .hbm, ⟨12, _⟩ => ⟨S8x4096x5632, .f32⟩
  | .hbm, ⟨13, _⟩ => ⟨S_, .f32⟩
  | .hbm, ⟨14, _⟩ => ⟨S8x4096x5632, .f32⟩
  | .hbm, ⟨15, _⟩ => ⟨S8x4096x5632, .f32⟩
  | .hbm, ⟨16, _⟩ => ⟨S_, .f32⟩
  | .hbm, ⟨17, _⟩ => ⟨S8x4096x5632, .f32⟩
  | .hbm, ⟨18, _⟩ => ⟨S8x4096x5632, .f32⟩
  | .hbm, ⟨19, _⟩ => ⟨S8x4096x5632, .f32⟩
  | .hbm, ⟨20, _⟩ => ⟨S8x4096x5632, .f32⟩
  | .hbm, ⟨21, _⟩ => ⟨S8x4096x5632, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== InProj.lean ====
abbrev S8x4096x2048 : Shape := ⟨3, ![8, 4096, 2048]⟩
abbrev S2048 : Shape := ⟨1, ![2048]⟩
abbrev S16x12288 : Shape := ⟨2, ![16, 12288]⟩
abbrev S2048x5120 : Shape := ⟨2, ![2048, 5120]⟩
abbrev S32768x2048 : Shape := ⟨2, ![32768, 2048]⟩
abbrev S96x1x2048 : Shape := ⟨3, ![96, 1, 2048]⟩
abbrev S1x2048 : Shape := ⟨2, ![1, 2048]⟩
abbrev S32768x5120 : Shape := ⟨2, ![32768, 5120]⟩
abbrev S1024x2048 : Shape := ⟨2, ![1024, 2048]⟩
abbrev S1x1x2048 : Shape := ⟨3, ![1, 1, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S16x12288, .f32⟩
  | .hbm, ⟨3, _⟩ => ⟨S2048x5120, .f32⟩
  | .hbm, ⟨4, _⟩ => ⟨S32768x2048, .f32⟩
  | .hbm, ⟨5, _⟩ => ⟨S96x1x2048, .f32⟩
  | .hbm, ⟨6, _⟩ => ⟨S2048x5120, .bf16⟩
  | .hbm, ⟨7, _⟩ => ⟨S1x2048, .f32⟩
  | .hbm, ⟨8, _⟩ => ⟨S32768x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S1024x1280, .bf16⟩
  | .local _ .vmem, ⟨10, _⟩ => ⟨S1024x1280, .bf16⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c0_i32_5 : BitVec 32 := 0#32
  let v20 : BitVec 32 := Scalar.addi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S8x4096x2048 : Shape := ⟨3, ![8, 4096, 2048]⟩
abbrev S2048 : Shape := ⟨1, ![2048]⟩
abbrev S16x12288 : Shape := ⟨2, ![16, 12288]⟩
abbrev S2048x5120 : Shape := ⟨2, ![2048, 5120]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x5120 : Shape := ⟨3, ![8, 4096, 5120]⟩
abbrev S32768x5120 : Shape := ⟨2, ![32768, 5120]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S16x12288, .f32⟩
  | .hbm, ⟨3, _⟩ => ⟨S2048x5120, .f32⟩
  | .hbm, ⟨4, _⟩ => ⟨S8x12288, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x4096x5120, .f32⟩
  | .hbm, ⟨32, _⟩ => ⟨S32768x5120, .f32⟩
  | .hbm, ⟨33, _⟩ => ⟨S32768x5120, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== OutProj.lean ====
abbrev S32768x1024 : Shape := ⟨2, ![32768, 1024]⟩
abbrev S32768x512 : Shape := ⟨2, ![32768, 512]⟩
abbrev S8x4096x2048 : Shape := ⟨3, ![8, 4096, 2048]⟩
abbrev S2048x2048 : Shape := ⟨2, ![2048, 2048]⟩
abbrev S2048 : Shape := ⟨1, ![2048]⟩
abbrev S16x12288 : Shape := ⟨2, ![16, 12288]⟩
abbrev S32768x2048 : Shape := ⟨2, ![32768, 2048]⟩
abbrev S96x1x2048 : Shape := ⟨3, ![96, 1, 2048]⟩
abbrev S1x2048 : Shape := ⟨2, ![1, 2048]⟩
abbrev S512x1024 : Shape := ⟨2, ![512, 1024]⟩
abbrev S512x512 : Shape := ⟨2, ![512, 512]⟩
abbrev S512x2048 : Shape := ⟨2, ![512, 2048]⟩
abbrev S1024x2048 : Shape := ⟨2, ![1024, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x512, .f32⟩
  | .hbm, ⟨2, _⟩ => ⟨S32768x512, .bf16⟩
  | .hbm, ⟨3, _⟩ => ⟨S8x4096x2048, .f32⟩
  | .hbm, ⟨4, _⟩ => ⟨S2048x2048, .f32⟩
  | .hbm, ⟨5, _⟩ => ⟨S2048, .f32⟩
  | .hbm, ⟨6, _⟩ => ⟨S16x12288, .f32⟩
  | .hbm, ⟨7, _⟩ => ⟨S32768x2048, .f32⟩
  | .hbm, ⟨8, _⟩ => ⟨S2048x2048, .bf16⟩
  | .hbm, ⟨9, _⟩ => ⟨S96x1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S512x2048, .bf16⟩
  | .local _ .vmem, ⟨10, _⟩ => ⟨S512x2048, .bf16⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c2_i32 : BitVec 32 := 2#32
  let v20 : BitVec 32 := Scalar.addi v19 c2_i32
  let c0_i32_5 : BitVec 32 := 0#32
  let c0_i32_6 : BitVec 32 := 0#32
  let c0_i32_7 : BitVec 32 := 0#32
  ![v20.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c4_i32 : BitVec 32 := 4#32
  let v20 : BitVec 32 := Scalar.addi v19 c4_i32
  let c0_i32_5 : BitVec 32 := 0#32
  let c0_i32_6 : BitVec 32 := 0#32
  let c0_i32_7 : BitVec 32 := 0#32
  ![v20.toNat, c0_i32_5.toNat, c0_i32_6.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c3_i32 : BitVec 32 := 3#32
  let v20 : BitVec 32 := Scalar.addi v19 c3_i32
  let c0_i32_5 : BitVec 32 := 0#32
  let c0_i32_6 : BitVec 32 := 0#32
  let c0_i32_7 : BitVec 32 := 0#32
  ![v20.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutProjRefIdeal.lean ====
abbrev S32768x1024 : Shape := ⟨2, ![32768, 1024]⟩
abbrev S32768x512 : Shape := ⟨2, ![32768, 512]⟩
abbrev S8x4096x2048 : Shape := ⟨3, ![8, 4096, 2048]⟩
abbrev S2048x2048 : Shape := ⟨2, ![2048, 2048]⟩
abbrev S2048 : Shape := ⟨1, ![2048]⟩
abbrev S16x12288 : Shape := ⟨2, ![16, 12288]⟩
abbrev S8x12288 : Shape := ⟨2, ![8, 12288]⟩
abbrev S8x1x12288 : Shape := ⟨3, ![8, 1, 12288]⟩
abbrev S8x1x2048 : Shape := ⟨3, ![8, 1, 2048]⟩
abbrev S32768x2048 : Shape := ⟨2, ![32768, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .f32⟩
  | .hbm, ⟨2, _⟩ => ⟨S32768x512, .bf16⟩
  | .hbm, ⟨3, _⟩ => ⟨S8x4096x2048, .f32⟩
  | .hbm, ⟨4, _⟩ => ⟨S2048x2048, .f32⟩
  | .hbm, ⟨5, _⟩ => ⟨S2048, .f32⟩
  | .hbm, ⟨6, _⟩ => ⟨S16x12288, .f32⟩
  | .hbm, ⟨7, _⟩ => ⟨S8x12288, .f32⟩
  | .hbm, ⟨8, _⟩ => ⟨S8x1x12288, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S32768x1024, .f32⟩
  | .hbm, ⟨13, _⟩ => ⟨S32768x512, .f32⟩
  | .hbm, ⟨14, _⟩ => ⟨S32768x2048, .f32⟩
  | .hbm, ⟨15, _⟩ => ⟨S32768x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S1x1x2048, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x1x2048, .f32⟩
  | .hbm, ⟨38, _⟩ => ⟨S8x1x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S32768x2048, .f32⟩
  | .hbm, ⟨44, _⟩ => ⟨S32768x2048, .f32⟩
  | .hbm, ⟨45, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Prep.lean ====
abbrev S8192x5120 : Shape := ⟨2, ![8192, 5120]⟩
abbrev S64 : Shape := ⟨1, ![64]⟩
abbrev S8192x1024 : Shape := ⟨2, ![8192, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S256x1024 : Shape := ⟨2, ![256, 1024]⟩
abbrev S128x128 : Shape := ⟨2, ![128, 128]⟩
abbrev S256x128 : Shape := ⟨2, ![256, 128]⟩

abbrev nBuf : Space → Nat
  | .hbm => 15
  | .vmem => 12
  | .smem => 0
  | _ => 0

abbrev bufTy : (tb : Table) → Fin (tcTables nBuf tb) → BufTy
  | .hbm, ⟨0, _⟩ => ⟨S8192x5120, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S1x64, .f32⟩
  | .hbm, ⟨5, _⟩ => ⟨S1x1x1x64, .f32⟩
  | .hbm, ⟨6, _⟩ => ⟨S1x1x2x64, .f32⟩
  | .hbm, ⟨7, _⟩ => ⟨S1x128, .f32⟩
  | .hbm, ⟨8, _⟩ => ⟨S1x64, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S8192x1024, .bf16⟩
  | .hbm, ⟨13, _⟩ => ⟨S8192x1024, .bf16⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepIdeal.lean ====
variable {F : FTy → Type} [FloatOps F] [Named F]
def κ : String → Option EReal := fun
  | "q_scale" => some ((8⁻¹ * (Real.log 2)⁻¹ : ℝ) : EReal)
  | _ => none
-- ==== PrepRefIdeal.lean ====
abbrev S8192x5120 : Shape := ⟨2, ![8192, 5120]⟩
abbrev S64 : Shape := ⟨1, ![64]⟩
abbrev S8192x1024 : Shape := ⟨2, ![8192, 1024]⟩
abbrev S8192x8x2x64 : Shape := ⟨4, ![8192, 8, 2, 64]⟩
abbrev S_ : Shape := ⟨0, ![]⟩
abbrev S8192x8x2 : Shape := ⟨3, ![8192, 8, 2]⟩
abbrev S8192x8x2x1 : Shape := ⟨4, ![8192, 8, 2, 1]⟩
abbrev S1x1x1x64 : Shape := ⟨4, ![1, 1, 1, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x8x2x64, .f32⟩
  | .hbm, ⟨5, _⟩ => ⟨S8192x1024, .f32⟩
  | .hbm, ⟨6, _⟩ => ⟨S8192x8x2x64, .f32⟩
  | .hbm, ⟨7, _⟩ => ⟨S8192x1024, .f32⟩
  | .hbm, ⟨8, _⟩ => ⟨S8192x8x2x64, .f32⟩
  | .hbm, ⟨9, _⟩ => ⟨S_, .f32⟩
  | .hbm, ⟨10, _⟩ => ⟨S8192x8x2, .f32⟩
  | .hbm, ⟨11, _⟩ => ⟨S8192x8x2x1, .f32⟩
  | .hbm, ⟨12, _⟩ => ⟨S_, .f32⟩
  | .hbm, ⟨13, _⟩ => ⟨S8192x8x2x1, .f32⟩
  | .hbm, ⟨14, _⟩ => ⟨S8192x8x2x1, .f32⟩
  | .hbm, ⟨15, _⟩ => ⟨S_, .f32⟩
  | .hbm, ⟨16, _⟩ => ⟨S8192x8x2x1, .f32⟩
  | .hbm, ⟨17, _⟩ => ⟨S8192x8x2x1, .f32⟩
  | .hbm, ⟨18, _⟩ => ⟨S8192x8x2x1, .f32⟩
  | .hbm, ⟨19, _⟩ => ⟨S8192x8x2x64, .f32⟩
  | .hbm, ⟨20, _⟩ => ⟨S8192x8x2x64, .f32⟩
  | .hbm, ⟨21, _⟩ => ⟨S1x1x1x64, .f32⟩
  | .hbm, ⟨22, _⟩ => ⟨S8192x8x2x64, .f32⟩
  | .hbm, ⟨23, _⟩ => ⟨S8192x8x2x64, .f32⟩
  | .hbm, ⟨24, _⟩ => ⟨S8192x8x2x64, .f32⟩
  | .hbm, ⟨25, _⟩ => ⟨S_, .f32⟩
  | .hbm, ⟨26, _⟩ => ⟨S8192x8x2, .f32⟩
  | .hbm, ⟨27, _⟩ => ⟨S8192x8x2x1, .f32⟩
  | .hbm, ⟨28, _⟩ => ⟨S_, .f32⟩
  | .hbm, ⟨29, _⟩ => ⟨S8192x8x2x1, .f32⟩
  | .hbm, ⟨30, _⟩ => ⟨S8192x8x2x1, .f32⟩
  | .hbm, ⟨31, _⟩ => ⟨S_, .f32⟩
  | .hbm, ⟨32, _⟩ => ⟨S8192x8x2x1, .f32⟩
  | .hbm, ⟨33, _⟩ => ⟨S8192x8x2x1, .f32⟩
  | .hbm, ⟨34, _⟩ => ⟨S8192x8x2x1, .f32⟩
  | .hbm, ⟨35, _⟩ => ⟨S8192x8x2x64, .f32⟩
  | .hbm, ⟨36, _⟩ => ⟨S8192x8x2x64, .f32⟩
  | .hbm, ⟨37, _⟩ => ⟨S1x1x1x64, .f32⟩
  | .hbm, ⟨38, _⟩ => ⟨S8192x8x2x64, .f32⟩
  | .hbm, ⟨39, _⟩ => ⟨S8192x8x2x64, .f32⟩
  | .hbm, ⟨40, _⟩ => ⟨S_, .f32⟩
  | .hbm, ⟨41, _⟩ => ⟨S8192x8x2x64, .f32⟩
  | .hbm, ⟨42, _⟩ => ⟨S8192x8x2x64, .f32⟩
  | .hbm, ⟨43, _⟩ => ⟨S_, .f32⟩
  | .hbm, ⟨44, _⟩ => ⟨S_, .f32⟩
  | .hbm, ⟨45, _⟩ => ⟨S8192x8x2x64, .f32⟩
  | .hbm, ⟨46, _⟩ => ⟨S8192x8x2x64, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== FfnP.lean ====
abbrev S8192x2048 : Shape := ⟨2, ![8192, 2048]⟩
abbrev S2048x5632 : Shape := ⟨2, ![2048, 5632]⟩
abbrev S5632x2048 : Shape := ⟨2, ![5632, 2048]⟩
abbrev S16x12288 : Shape := ⟨2, ![16, 12288]⟩
abbrev S96x1x2048 : Shape := ⟨3, ![96, 1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16x12288, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S96x1x2048, .f32⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnPRefIdeal.lean ====
abbrev S8192x2048 : Shape := ⟨2, ![8192, 2048]⟩
abbrev S2048x5632 : Shape := ⟨2, ![2048, 5632]⟩
abbrev S5632x2048 : Shape := ⟨2, ![5632, 2048]⟩
abbrev S16x12288 : Shape := ⟨2, ![16, 12288]⟩
abbrev S1x2048 : Shape := ⟨2, ![1, 2048]⟩
abbrev S1x1x2048 : Shape := ⟨3, ![1, 1, 2048]⟩
abbrev S32x256x2048 : Shape := ⟨3, ![32, 256, 2048]⟩
abbrev S32x256x5632 : Shape := ⟨3, ![32, 256, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16x12288, .f32⟩
  | .hbm, ⟨6, _⟩ => ⟨S1x2048, .f32⟩
  | .hbm, ⟨7, _⟩ => ⟨S1x1x2048, .f32⟩
  | .hbm, ⟨8, _⟩ => ⟨S8192x2048, .f32⟩
  | .hbm, ⟨9, _⟩ => ⟨S32x256x2048, .f32⟩
  | .hbm, ⟨10, _⟩ => ⟨S32x256x5632, .f32⟩
  | .hbm, ⟨11, _⟩ => ⟨S32x256x5632, .f32⟩
  | .hbm, ⟨12, _⟩ => ⟨S32x256x5632, .f32⟩
  | .hbm, ⟨13, _⟩ => ⟨S_, .f32⟩
  | .hbm, ⟨14, _⟩ => ⟨S32x256x5632, .f32⟩
  | .hbm, ⟨15, _⟩ => ⟨S32x256x5632, .f32⟩
  | .hbm, ⟨16, _⟩ => ⟨S_, .f32⟩
  | .hbm, ⟨17, _⟩ => ⟨S32x256x5632, .f32⟩
  | .hbm, ⟨18, _⟩ => ⟨S32x256x5632, .f32⟩
  | .hbm, ⟨19, _⟩ => ⟨S32x256x5632, .f32⟩
  | .hbm, ⟨20, _⟩ => ⟨S32x256x5632, .f32⟩
  | .hbm, ⟨21, _⟩ => ⟨S32x256x5632, .f32⟩
  | .hbm, ⟨22, _⟩ => ⟨S32x256x2048, .f32⟩
  | .hbm, ⟨23, _⟩ => ⟨S32x256x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Proof.OneTrip.lean ====
module

public import Idealize.ShloMosaic.Lib.Scf

@[expose] public section

/-! A counted loop that runs once is its region; one that never runs is nothing. -/

namespace Cert.OneTrip

open Idealize.ShloMosaic Idealize.SL.Sem

universe v
variable {E : Type → Type v}

/-- A loop of one trip, carrying nothing, is its region at that trip. -/
theorem for_one {w : ℕ} (l : Scf.Loop w) (hok : l.OK) (h : l.trips = 1) (body : Fin l.trips → Unit → Prog E Unit) :
    Scf.Loop.for l hok () body = body ⟨0, by omega⟩ () := by
  have e : List.finRange l.trips = [⟨0, by omega⟩] := by
    apply List.ext_getElem
    · simp [h]
    · intro n h1 h2
      have : n = 0 := by simp at h2; exact h2
      subst this
      simp
  unfold Scf.Loop.for
  rw [Scf.for_eq]
  refine (congrArg (fun ks => Scf.forFrom body ks ()) e).trans ?_
  show (body _ () >>= fun a => Prog.ret a) = _
  exact bind_pure _

/-- A loop of no trips, carrying nothing, is `pure`. -/
theorem for_none {w : ℕ} (l : Scf.Loop w) (hok : l.OK) (h : l.trips = 0) (body : Fin l.trips → Unit → Prog E Unit) :
    Scf.Loop.for l hok () body = pure () := by
  have e : List.finRange l.trips = [] := by
    apply List.eq_nil_of_length_eq_zero
    simp [h]
  unfold Scf.Loop.for
  rw [Scf.for_eq]
  rw [show List.finRange (Scf.trips l.lb l.ub l.st) = [] from e]
  rfl

end Cert.OneTrip
-- ==== Proof.AttnI.Loops.lean ====
module

public import proofs.«01_k».proof.Proof.Gen.AttnIdeal.Frame
public import proofs.«01_k».proof.Proof.Gen.AttnIdeal.Skeleton
public import proofs.«01_k».proof.Proof.OneTrip

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The query-block coordinate `n`, cut at zero, plus one: the number of trips both sweeps ask for. -/
abbrev bnd (n : Fin 8) : BitVec 32 := Scalar.addi (Scalar.minsi (BitVec.ofNat 32 n.val) 0#32) 1#32

/-- The unrolled part of each sweep runs once, -/
theorem main_trips : ∀ n : Fin 8, Scf.trips 0#32 (Scalar.addi 0#32 (Scalar.muli (Scalar.divsi (Scalar.subi (bnd n) 0#32) 1#32) 1#32)) 1#32 = 1 := by decide
/-- and what is left over never runs. -/
theorem rest_trips : ∀ n : Fin 8, Scf.trips (Scalar.addi 0#32 (Scalar.muli (Scalar.divsi (Scalar.subi (bnd n) 0#32) 1#32) 1#32)) (Scalar.addi 0#32 (Scalar.subi (bnd n) 0#32)) 1#32 = 0 := by decide

/-- The body's condition: the query block is the first of its head. -/
abbrev cond0_0 (i : grid0.Coords) : Prop := (Scalar.cmpi .ne (Scalar.extui (Scalar.cmpi .eq (BitVec.ofNat 32 (i 2).val) 0#32)) 0#32) = 1#1

theorem trips1 (i : grid0.Coords) : (k0_t1_loop i).trips = 1 := main_trips (i 2)
theorem trips2 (i : grid0.Coords) : (k0_t2_loop i).trips = 0 := rest_trips (i 2)
theorem trips3 (i : grid0.Coords) : (k0_t3_loop i).trips = 1 := main_trips (i 2)
theorem trips4 (i : grid0.Coords) : (k0_t4_loop i).trips = 0 := rest_trips (i 2)
theorem trips5 (i : grid0.Coords) : (k0_t5_loop i).trips = 1 := main_trips (i 2)
theorem trips6 (i : grid0.Coords) : (k0_t6_loop i).trips = 0 := rest_trips (i 2)
theorem trips7 (i : grid0.Coords) : (k0_t7_loop i).trips = 1 := main_trips (i 2)
theorem trips8 (i : grid0.Coords) : (k0_t8_loop i).trips = 0 := rest_trips (i 2)

end Cert.AttnIdeal.Gen

end
-- ==== Proof.AttnI.RunB.lean ====
module

public import proofs.«01_k».proof.Proof.AttnI.Loops

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.OneTrip

set_option maxHeartbeats 4000000 in
/-- The body at a point, where the keys and values are the ones the point before left: it runs, and
    the pieces it stores into the output block are found by the run. -/
noncomputable def bodyRunB (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : ¬cond0_0 i)
    (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (x12 : Vec F S4352x128 .bf16) (x13 : Vec F S4352x128 .bf16) :
    { L10 : List (View.Piece (Elt F) S512x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg12 fullShare x12 ∗ owns (c : Thread nD τ) arg13 fullShare x13 ∗ (∃ d, owns (c : Thread nD τ) arg11 fullShare d) ∗ (∃ d, owns (c : Thread nD τ) arg14 fullShare d) ∗ (∃ d, owns (c : Thread nD τ) arg15 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg12 fullShare x12 ∗ owns (c : Thread nD τ) arg13 fullShare x13 ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_diff_attn_eq_skeleton]; unfold cc0_diff_attn_skel
    simp only [k0_part1_eq_skeleton, k0_part2_eq_skeleton]; unfold k0_part1_skel k0_part2_skel
    simp only [for_one (k0_t1_loop i) (k0_t1_ok i) (trips1 i), for_none (k0_t2_loop i) (k0_t2_ok i) (trips2 i), for_one (k0_t3_loop i) (k0_t3_ok i) (trips3 i), for_none (k0_t4_loop i) (k0_t4_ok i) (trips4 i),
      for_one (k0_t5_loop i) (k0_t5_ok i) (trips5 i), for_none (k0_t6_loop i) (k0_t6_ok i) (trips6 i), for_one (k0_t7_loop i) (k0_t7_ok i) (trips7 i), for_none (k0_t8_loop i) (k0_t8_ok i) (trips8 i)]
    unfold k0_t1_body k0_t3_body k0_t5_body k0_t7_body
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f12, %hf12, H12⟩, ⟨%f13, %hf13, H13⟩, ⟨%d11, %f11, -, H11⟩, ⟨%d14, %f14, -, H14⟩, ⟨%d15, %f15, -, H15⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    obtain rfl := harg12.eq_unread hf12; obtain rfl := harg13.eq_unread hf13
    sl_exec (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H12]
    · iexists _; isplitr; · ipureintro; exact harg12.read_unread _
      iexact H12
    isplitl [H13]
    · iexists _; isplitr; · ipureintro; exact harg13.read_unread _
      iexact H13
    isplitl [H11]; · iexists _; iexact H11
    isplitl [H14]; · iexists _; iexact H14
    iexists _; iexact H15

end Cert.AttnIdeal.Gen

end
-- ==== Proof.AttnI.RunA.lean ====
module

public import proofs.«01_k».proof.Proof.AttnI.Loops

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.OneTrip

set_option maxHeartbeats 4000000 in
/-- The body at a point, where the keys and values are taken up (the query block is the first of its head): it runs, and
    the pieces it stores into the output block and into the two carried buffers are found by the run. -/
noncomputable def bodyRunA (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i)
    (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) :
    Σ' (L12 : List (View.Piece (Elt F) S4352x128 .bf16)) (L13 : List (View.Piece (Elt F) S4352x128 .bf16)), { L10 : List (View.Piece (Elt F) S512x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg12 fullShare d) ∗ (∃ d, owns (c : Thread nD τ) arg13 fullShare d) ∗ (∃ d, owns (c : Thread nD τ) arg11 fullShare d) ∗ (∃ d, owns (c : Thread nD τ) arg14 fullShare d) ∗ (∃ d, owns (c : Thread nD τ) arg15 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_diff_attn_eq_skeleton]; unfold cc0_diff_attn_skel
    simp only [k0_part1_eq_skeleton, k0_part2_eq_skeleton]; unfold k0_part1_skel k0_part2_skel
    simp only [for_one (k0_t1_loop i) (k0_t1_ok i) (trips1 i), for_none (k0_t2_loop i) (k0_t2_ok i) (trips2 i), for_one (k0_t3_loop i) (k0_t3_ok i) (trips3 i), for_none (k0_t4_loop i) (k0_t4_ok i) (trips4 i),
      for_one (k0_t5_loop i) (k0_t5_ok i) (trips5 i), for_none (k0_t6_loop i) (k0_t6_ok i) (trips6 i), for_one (k0_t7_loop i) (k0_t7_ok i) (trips7 i), for_none (k0_t8_loop i) (k0_t8_ok i) (trips8 i)]
    unfold k0_t1_body k0_t3_body k0_t5_body k0_t7_body
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, ⟨%d11, %f11, -, H11⟩, ⟨%d14, %f14, -, H14⟩, ⟨%d15, %f15, -, H15⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9

    sl_exec (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H12]; · iexists _; iexact H12
    isplitl [H13]; · iexists _; iexact H13
    isplitl [H11]; · iexists _; iexact H11
    isplitl [H14]; · iexists _; iexact H14
    iexists _; iexact H15

end Cert.AttnIdeal.Gen

end
-- ==== Proof.AttnI.Block.lean ====
module

public import proofs.«01_k».proof.Proof.AttnI.RunB
public import proofs.«01_k».proof.Proof.AttnI.RunA
public import Idealize.ShloMosaic.Lib.WholeRead
public import Idealize.ShloMosaic.Lib.Pipeline.ReadBack

@[expose] public section

set_option maxRecDepth 16384

noncomputable section

namespace Cert.AttnIdeal.Gen

open Idealize.ShloMosaic Idealize.ShloMosaic.TcCoe Idealize.ShloMosaic.Tactic

variable {F : FTy → Type} [FloatOps F]

/-- The keys of a head: its 4096 rows of the projection, then its 256 cached rows. -/
def keys (x4 : Vec F S4096x128 .bf16) (x6 : Vec F S1x1x256x128 .f32) : Vec F S4352x128 .bf16 :=
  View.canon [⟨Rect.unit ![4096, 0] ![256, 128] inb_S4352x128_S256x128_4096_0, k0_pay4 x6⟩,
    ⟨Rect.unit ![0, 0] ![4096, 128] inb_S4352x128_S4096x128_0_0, k0_pay2 x4⟩]

/-- The values of a head, laid out as its keys. -/
def vals (x5 : Vec F S4096x128 .bf16) (x7 : Vec F S1x1x256x128 .f32) : Vec F S4352x128 .bf16 :=
  View.canon [⟨Rect.unit ![4096, 0] ![256, 128] inb_S4352x128_S256x128_4096_0, k0_pay5 x7⟩,
    ⟨Rect.unit ![0, 0] ![4096, 128] inb_S4352x128_S4096x128_0_0, k0_pay3 x5⟩]

/-- The first 2304 rows of a head's keys or values. -/
def part1 (x : Vec F S4352x128 .bf16) : Vec F S2304x128 .bf16 :=
  View.ld x (Rect.unit ![0, 0] S2304x128.size inb_S4352x128_S2304x128_0_0)

/-- The last 2048 rows. -/
def part2 (x : Vec F S4352x128 .bf16) : Vec F S2048x128 .bf16 :=
  View.ld x (Rect.unit ![2304, 0] S2048x128.size inb_S4352x128_S2048x128_2304_0)

/-- The largest score of every row, after both parts of the keys. -/
def rowMax (x3 : Vec F S512x128 .bf16) (xk : Vec F S4352x128 .bf16) : Vec F S1024x128 .f32 :=
  k0_pay15 x3 (part2 xk) (k0_pay9 x3 (part1 xk))

/-- The weighted sums of the values and of the weights, after both parts. -/
def sums (x3 : Vec F S512x128 .bf16) (xk xv : Vec F S4352x128 .bf16) : Vec F S1024x256 .f32 :=
  k0_pay21 (k0_pay14 x3 (part2 xk)) (part2 xv) (rowMax x3 xk)
    (k0_pay19 (k0_pay8 x3 (part1 xk)) (part1 xv) (rowMax x3 xk))

/-- The weighted sums of the values. -/
def sumsV (x3 : Vec F S512x128 .bf16) (xk xv : Vec F S4352x128 .bf16) : Vec F S1024x128 .f32 :=
  View.ld (sums x3 xk xv) (Rect.unit ![0, 0] ![1024, 128] inb_S1024x256_S1024x128_0_0)

/-- The sums of the weights. -/
def sumsW (x3 : Vec F S512x128 .bf16) (xk xv : Vec F S4352x128 .bf16) : Vec F S1024x128 .f32 :=
  View.ld (sums x3 xk xv) (Rect.unit ![0, 128] ![1024, 128] inb_S1024x256_S1024x128_0_128)

/-- What the body leaves in the output block, from the queries, the head's keys and values, the four weights and the
gain. -/
def block (x3 : Vec F S512x128 .bf16) (xk xv : Vec F S4352x128 .bf16) (x8 : Vec F S4x64 .f32) (x9 : Vec F S1x128 .f32) :
    Vec F S512x128 .bf16 :=
  k0_pay1 (k0_pay23 (sumsV x3 xk xv) (sumsW x3 xk xv) x8) (k0_pay24 (sumsV x3 xk xv) (sumsW x3 xk xv) x8)
    (FloatOps.ofBits .f32 897988541#32) x9

theorem readAt_unread_ld {s : Shape} {e : EltTy} {m : Memref sig .tc .vmem s e} (h : m.IsWhole) (X : s.Idx → Elt F e) (r : Rect s) :
    View.readAt (Elt F) m.view r.toLoadRect (h.unread X) = View.ld X r :=
  funext fun x => h.readAt_unread X r.toLoadRect x

theorem ld_full {s : Shape} {e : EltTy} (X : s.Idx → Elt F e) {off : Fin s.rank → ℕ} (h : ∀ a, off a = 0) (inb : ∀ a, off a + s.size a ≤ s.size a) :
    View.ld X (Rect.unit off s.size inb) = X :=
  View.ld_unit_zero (funext h) inb X

/-- The run where the keys and values are carried leaves `block` in the output block. -/
theorem runB_block (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : ¬cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (x12 : Vec F S4352x128 .bf16) (x13 : Vec F S4352x128 .bf16) :
    View.canon (bodyRunB c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9 x12 x13).1 = block x3 x12 x13 x8 x9 := by
  unfold bodyRunB; dsimp only
  have e3 : View.readAt (Elt F) arg3.view (Rect.unit ![0, 0] ![512, 128] inb_S512x128_S512x128_0_0).toLoadRect (harg3.unread x3) = x3 :=
    (readAt_unread_ld harg3 x3 _).trans (ld_full x3 (by decide) _)
  have e8 : View.readAt (Elt F) arg8.view (Rect.unit ![0, 0] ![4, 64] inb_S4x64_S4x64_0_0).toLoadRect (harg8.unread x8) = x8 :=
    (readAt_unread_ld harg8 x8 _).trans (ld_full x8 (by decide) _)
  have e9 : View.readAt (Elt F) arg9.view (Rect.unit ![0, 0] ![1, 128] inb_S1x128_S1x128_0_0).toLoadRect (harg9.unread x9) = x9 :=
    (readAt_unread_ld harg9 x9 _).trans (ld_full x9 (by decide) _)
  have k1 : View.readAt (Elt F) arg12.view (Rect.unit (s := S4352x128) ![0, 0] S2304x128.size inb_S4352x128_S2304x128_0_0).toLoadRect (harg12.unread x12) = part1 x12 := readAt_unread_ld harg12 x12 _
  have k2 : View.readAt (Elt F) arg12.view (Rect.unit (s := S4352x128) ![2304, 0] S2048x128.size inb_S4352x128_S2048x128_2304_0).toLoadRect (harg12.unread x12) = part2 x12 := readAt_unread_ld harg12 x12 _
  have w1 : View.readAt (Elt F) arg13.view (Rect.unit (s := S4352x128) ![0, 0] S2304x128.size inb_S4352x128_S2304x128_0_0).toLoadRect (harg13.unread x13) = part1 x13 := readAt_unread_ld harg13 x13 _
  have w2 : View.readAt (Elt F) arg13.view (Rect.unit (s := S4352x128) ![2304, 0] S2048x128.size inb_S4352x128_S2048x128_2304_0).toLoadRect (harg13.unread x13) = part2 x13 := readAt_unread_ld harg13 x13 _
  have h85 : bodyRunB.sl.v85 c arg3 harg3 arg12 harg12 arg14 x3 x12 = k0_pay9 x3 (part1 x12) := by
    unfold bodyRunB.sl.v85 bodyRunB.sl.H14_1; rw [View.readCov_cons_toLoadRect, e3, k1]
  have h82 : bodyRunB.sl.v82 c arg3 harg3 arg12 harg12 arg14 x3 x12 = rowMax x3 x12 := by
    unfold bodyRunB.sl.v82 bodyRunB.sl.H14_2; rw [View.readCov_cons_toLoadRect, e3, k2, h85]; rfl
  have hs1 : bodyRunB.sl.v80 c arg3 harg3 arg11 arg12 harg12 x3 x12 = k0_pay8 x3 (part1 x12) := by
    unfold bodyRunB.sl.v80 bodyRunB.sl.H11_2
    rw [View.readCov_skip _ _ _ _ _ (by decide), View.readCov_cons_toLoadRect, e3, k1]
  have hs2 : bodyRunB.sl.v80_1 c arg3 harg3 arg11 arg12 harg12 x3 x12 = k0_pay14 x3 (part2 x12) := by
    unfold bodyRunB.sl.v80_1 bodyRunB.sl.H11_2
    rw [View.readCov_cons_toLoadRect, e3, k2]
  have h90 : bodyRunB.sl.v90 c arg3 harg3 arg11 arg12 harg12 arg13 harg13 arg14 arg15 x3 x12 x13 = k0_pay19 (k0_pay8 x3 (part1 x12)) (part1 x13) (rowMax x3 x12) := by
    unfold bodyRunB.sl.v90 bodyRunB.sl.H15_1; rw [View.readCov_cons_toLoadRect, hs1, w1, h82]
  have h15 : View.canon (bodyRunB.sl.H15_2 c arg3 harg3 arg11 arg12 harg12 arg13 harg13 arg14 arg15 x3 x12 x13) = sums x3 x12 x13 := by
    unfold bodyRunB.sl.H15_2; rw [View.canon_cons_unit_zero (by decide), hs2, w2, h82, h90]; rfl
  have h35 : bodyRunB.sl.v35 c arg3 harg3 arg11 arg12 harg12 arg13 harg13 arg14 arg15 x3 x12 x13 = sumsV x3 x12 x13 := by
    unfold bodyRunB.sl.v35; rw [View.readCov_eq_canon', h15]; rfl
  have h36 : bodyRunB.sl.v36 c arg3 harg3 arg11 arg12 harg12 arg13 harg13 arg14 arg15 x3 x12 x13 = sumsW x3 x12 x13 := by
    unfold bodyRunB.sl.v36; rw [View.readCov_eq_canon', h15]; rfl
  refine (View.canon_cons_unit_zero (by decide) _ _ _).trans ?_
  rw [h35, h36, e8, e9]; rfl

/-- The run where the keys and values are taken up leaves `keys` in the buffer of the head's keys. -/
theorem runA_keys (c : Dev nD) (arg4 : Memref sig .tc .vmem S4096x128 .bf16) (harg4 : arg4.IsWhole) (arg6 : Memref sig .tc .vmem S1x1x256x128 .f32) (harg6 : arg6.IsWhole) (x4 : Vec F S4096x128 .bf16) (x6 : Vec F S1x1x256x128 .f32) :
    View.canon (bodyRunA.sl.H12_2 c arg4 harg4 arg6 harg6 x4 x6) = keys x4 x6 := by
  have e4 : View.readAt (Elt F) arg4.view (Rect.unit ![0, 0] ![4096, 128] inb_S4096x128_S4096x128_0_0).toLoadRect (harg4.unread x4) = x4 :=
    (readAt_unread_ld harg4 x4 _).trans (ld_full x4 (by decide) _)
  have e6 : bodyRunA.sl.v88 c arg6 harg6 x6 = x6 :=
    (readAt_unread_ld harg6 x6 _).trans (ld_full x6 (by decide) _)
  unfold bodyRunA.sl.H12_2; rw [e4, e6]; rfl

/-- The run where the keys and values are taken up leaves `vals` in the buffer of the head's values. -/
theorem runA_vals (c : Dev nD) (arg5 : Memref sig .tc .vmem S4096x128 .bf16) (harg5 : arg5.IsWhole) (arg7 : Memref sig .tc .vmem S1x1x256x128 .f32) (harg7 : arg7.IsWhole) (x5 : Vec F S4096x128 .bf16) (x7 : Vec F S1x1x256x128 .f32) :
    View.canon (bodyRunA.sl.H13_2 c arg5 harg5 arg7 harg7 x5 x7) = vals x5 x7 := by
  have e5 : View.readAt (Elt F) arg5.view (Rect.unit ![0, 0] ![4096, 128] inb_S4096x128_S4096x128_0_0).toLoadRect (harg5.unread x5) = x5 :=
    (readAt_unread_ld harg5 x5 _).trans (ld_full x5 (by decide) _)
  have e7 : bodyRunA.sl.v94 c arg7 harg7 x7 = x7 :=
    (readAt_unread_ld harg7 x7 _).trans (ld_full x7 (by decide) _)
  unfold bodyRunA.sl.H13_2; rw [e5, e7]; rfl

/-- The run where the keys and values are taken up leaves `block` of them in the output block. -/
theorem runA_block (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) :
    View.canon (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.2.1 = block x3 (keys x4 x6) (vals x5 x7) x8 x9 := by
  unfold bodyRunA; dsimp only
  have e3 : View.readAt (Elt F) arg3.view (Rect.unit ![0, 0] ![512, 128] inb_S512x128_S512x128_0_0).toLoadRect (harg3.unread x3) = x3 :=
    (readAt_unread_ld harg3 x3 _).trans (ld_full x3 (by decide) _)
  have e8 : View.readAt (Elt F) arg8.view (Rect.unit ![0, 0] ![4, 64] inb_S4x64_S4x64_0_0).toLoadRect (harg8.unread x8) = x8 :=
    (readAt_unread_ld harg8 x8 _).trans (ld_full x8 (by decide) _)
  have e9 : View.readAt (Elt F) arg9.view (Rect.unit ![0, 0] ![1, 128] inb_S1x128_S1x128_0_0).toLoadRect (harg9.unread x9) = x9 :=
    (readAt_unread_ld harg9 x9 _).trans (ld_full x9 (by decide) _)
  have k1 : bodyRunA.sl.v80 c arg4 harg4 arg6 harg6 arg12 x4 x6 = part1 (keys x4 x6) := by
    unfold bodyRunA.sl.v80; rw [View.readCov_eq_canon', runA_keys]; rfl
  have k2 : bodyRunA.sl.v80_1 c arg4 harg4 arg6 harg6 arg12 x4 x6 = part2 (keys x4 x6) := by
    unfold bodyRunA.sl.v80_1; rw [View.readCov_eq_canon', runA_keys]; rfl
  have w1 : bodyRunA.sl.v81 c arg5 harg5 arg7 harg7 arg13 x5 x7 = part1 (vals x5 x7) := by
    unfold bodyRunA.sl.v81; rw [View.readCov_eq_canon', runA_vals]; rfl
  have w2 : bodyRunA.sl.v81_1 c arg5 harg5 arg7 harg7 arg13 x5 x7 = part2 (vals x5 x7) := by
    unfold bodyRunA.sl.v81_1; rw [View.readCov_eq_canon', runA_vals]; rfl
  have h85 : bodyRunA.sl.v85 c arg3 harg3 arg4 harg4 arg6 harg6 arg12 arg14 x3 x4 x6 = k0_pay9 x3 (part1 (keys x4 x6)) := by
    unfold bodyRunA.sl.v85 bodyRunA.sl.H14_1; rw [View.readCov_cons_toLoadRect, e3, k1]
  have h82 : bodyRunA.sl.v82 c arg3 harg3 arg4 harg4 arg6 harg6 arg12 arg14 x3 x4 x6 = rowMax x3 (keys x4 x6) := by
    unfold bodyRunA.sl.v82 bodyRunA.sl.H14_2; rw [View.readCov_cons_toLoadRect, e3, k2, h85]; rfl
  have hs1 : bodyRunA.sl.v80_2 c arg3 harg3 arg4 harg4 arg6 harg6 arg11 arg12 x3 x4 x6 = k0_pay8 x3 (part1 (keys x4 x6)) := by
    unfold bodyRunA.sl.v80_2 bodyRunA.sl.H11_2
    rw [View.readCov_skip _ _ _ _ _ (by decide), View.readCov_cons_toLoadRect, e3, k1]
  have hs2 : bodyRunA.sl.v80_3 c arg3 harg3 arg4 harg4 arg6 harg6 arg11 arg12 x3 x4 x6 = k0_pay14 x3 (part2 (keys x4 x6)) := by
    unfold bodyRunA.sl.v80_3 bodyRunA.sl.H11_2
    rw [View.readCov_cons_toLoadRect, e3, k2]
  have h90 : bodyRunA.sl.v90 c arg3 harg3 arg4 harg4 arg5 harg5 arg6 harg6 arg7 harg7 arg11 arg12 arg13 arg14 arg15 x3 x4 x5 x6 x7 = k0_pay19 (k0_pay8 x3 (part1 (keys x4 x6))) (part1 (vals x5 x7)) (rowMax x3 (keys x4 x6)) := by
    unfold bodyRunA.sl.v90 bodyRunA.sl.H15_1; rw [View.readCov_cons_toLoadRect, hs1, w1, h82]
  have h15 : View.canon (bodyRunA.sl.H15_2 c arg3 harg3 arg4 harg4 arg5 harg5 arg6 harg6 arg7 harg7 arg11 arg12 arg13 arg14 arg15 x3 x4 x5 x6 x7) = sums x3 (keys x4 x6) (vals x5 x7) := by
    unfold bodyRunA.sl.H15_2; rw [View.canon_cons_unit_zero (by decide), hs2, w2, h82, h90]; rfl
  have h35 : bodyRunA.sl.v35 c arg3 harg3 arg4 harg4 arg5 harg5 arg6 harg6 arg7 harg7 arg11 arg12 arg13 arg14 arg15 x3 x4 x5 x6 x7 = sumsV x3 (keys x4 x6) (vals x5 x7) := by
    unfold bodyRunA.sl.v35; rw [View.readCov_eq_canon', h15]; rfl
  have h36 : bodyRunA.sl.v36 c arg3 harg3 arg4 harg4 arg5 harg5 arg6 harg6 arg7 harg7 arg11 arg12 arg13 arg14 arg15 x3 x4 x5 x6 x7 = sumsW x3 (keys x4 x6) (vals x5 x7) := by
    unfold bodyRunA.sl.v36; rw [View.readCov_eq_canon', h15]; rfl
  refine (View.canon_cons_unit_zero (by decide) _ _ _).trans ?_
  rw [h35, h36, e8, e9]; rfl

theorem coverB_10 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : ¬cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (x12 : Vec F S4352x128 .bf16) (x13 : Vec F S4352x128 .bf16) (y : S512x128.Idx) :
    ∃ pc ∈ (bodyRunB c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9 x12 x13).1, y ∈ pc.1.set :=
  View.cover_of_tiledBy (bodyRunB c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9 x12 x13).1 ![512, 128] (by sl_kernel_rfl) y

theorem coverA_10 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (y : S512x128.Idx) :
    ∃ pc ∈ (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.2.1, y ∈ pc.1.set :=
  View.cover_of_tiledBy (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.2.1 ![512, 128] (by sl_kernel_rfl) y

theorem coverA_12 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (y : S4352x128.Idx) :
    ∃ pc ∈ (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).1, y ∈ pc.1.set :=
  View.cover_of_tiledBy (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).1 ![256, 128] (by sl_kernel_rfl) y

theorem coverA_13 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) (y : S4352x128.Idx) :
    ∃ pc ∈ (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.1, y ∈ pc.1.set :=
  View.cover_of_tiledBy (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.1 ![256, 128] (by sl_kernel_rfl) y

theorem runA_12 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) :
    View.canon (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).1 = keys x4 x6 := runA_keys c arg4 harg4 arg6 harg6 x4 x6

theorem runA_13 (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg11 : Memref sig .tc .vmem S1024x4352 .f32) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1024x128 .f32) (harg14 : arg14.IsWhole) (arg15 : Memref sig .tc .vmem S1024x256 .f32) (harg15 : arg15.IsWhole) (hc0 : cond0_0 i) (x3 : Vec F S512x128 .bf16) (x4 : Vec F S4096x128 .bf16) (x5 : Vec F S4096x128 .bf16) (x6 : Vec F S1x1x256x128 .f32) (x7 : Vec F S1x1x256x128 .f32) (x8 : Vec F S4x64 .f32) (x9 : Vec F S1x128 .f32) :
    View.canon (bodyRunA c i arg3 harg3 arg4 harg4 arg5 harg5 arg6 harg6 arg7 harg7 arg8 harg8 arg9 harg9 arg10 harg10 arg11 harg11 arg12 harg12 arg13 harg13 arg14 harg14 arg15 harg15 hc0 x3 x4 x5 x6 x7 x8 x9).2.1 = vals x5 x7 := runA_vals c arg5 harg5 arg7 harg7 x5 x7

end Cert.AttnIdeal.Gen

end
-- ==== Proof.AttnI.Frame.lean ====
module

public import proofs.«01_k».proof.Proof.AttnI.Block
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query block is the first of its head at every eighth point. -/
theorem hcond0_0 : ∀ t : Fin cfg0.N, cond0_0 (grid0.coords t) ↔ t.val % 8 = 0 :=
  (fun t => by
    have ht : t.val < 512 := Nat.lt_of_lt_of_eq t.isLt N_0
    have e2 : (grid0.coords t 2).val = t.val / 1 % 8 := Pipeline.Grid.coords_val t 2 (by decide) rfl
    simp only [cond0_0, e2]
    word_cmp
   : ∀ t : Fin grid0.N, cond0_0 (grid0.coords t) ↔ t.val % 8 = 0)

/-! ## The memrefs the body is called on -/

abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev scM0_0 : Memref sig .tc .vmem S1024x4352 .f32 := Memref.whole cc0_scratch0
abbrev scM0_1 : Memref sig .tc .vmem S4352x128 .bf16 := Memref.whole cc0_scratch1
abbrev scM0_2 : Memref sig .tc .vmem S4352x128 .bf16 := Memref.whole cc0_scratch2
abbrev scM0_3 : Memref sig .tc .vmem S1024x128 .f32 := Memref.whole cc0_scratch3
abbrev scM0_4 : Memref sig .tc .vmem S1024x256 .f32 := Memref.whole cc0_scratch4

/-- The launch's invariant, the five scratch buffers each owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The buffer's raw contents, read back: the buffer is owned at some contents. -/
theorem owns_of_raw {sp : Space} {sh : Shape} {e : EltTy} (c : Dev nD) (a : Memref sig .tc sp sh e) :
    (iprop(∃ f, a.view.loc (c : Thread nD τ) ↦[a.view.set]{fullShare} f) : sProp 𝕄)
      ⊢ iprop(∃ d, owns (c : Thread nD τ) a fullShare d) := by
  unfold owns
  iintro ⟨%f, H⟩
  iexists (a.view.read (Elt F) f); iexists f; isplitr
  · ipureintro; rfl
  iexact H

/-! ## What is held after each point -/

/-- The keys of the head point `t` belongs to. -/
def kAt (c : Dev nD) (t : Fin cfg0.N) : Vec F S4352x128 .bf16 := keys (iblk m c 1 t) (iblk m c 3 t)

/-- Its values. -/
def vAt (c : Dev nD) (t : Fin cfg0.N) : Vec F S4352x128 .bf16 := vals (iblk m c 2 t) (iblk m c 4 t)

/-- The output block after the body at point `t`. -/
def oAt (c : Dev nD) (t : Fin cfg0.N) : Vec F S512x128 .bf16 :=
  block (iblk m c 0 t) (kAt m c t) (vAt m c t) (iblk m c 5 t) (iblk m c 6 t)

/-- The invariant before position `n`: before the first point every scratch buffer at anything; afterwards the two
carried ones at the keys and values of the point before, the others at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (kAt m c ⟨n, hn⟩) ∗ owns (c : Thread nD τ) scM0_2 fullShare (vAt m c ⟨n, hn⟩) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (kAt m c ⟨n, hn⟩) ∗ owns (c : Thread nD τ) scM0_2 fullShare (vAt m c ⟨n, hn⟩) ∗ (∃ d, owns (c : Thread nD τ) scM0_3 fullShare d) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (kAt m c ⟨n - 1, by omega⟩) ∗ owns (c : Thread nD τ) scM0_2 fullShare (vAt m c ⟨n - 1, by omega⟩) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- The proof data: the arrays as the region finds them, each input's buffer at its block after the body, the output's
at `oAt`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = oAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- An input window that fetches nothing at a point has the block of the point before. -/
theorem step_of (c : Dev nD) (w : Fin cfg0.W) (hw : (cfg0.win w).isOut = false) (hc : ∀ t t' : Fin cfg0.N, (cfg0.win w).clip (cfg0.grid.coords t) = (cfg0.win w).clip (cfg0.grid.coords t'))
    (t : Fin cfg0.N) (hf : (cfg0.win w).fetch t = false) (d) :
    (dats m 0 c).fetched w t d = (dats m 0 c).fetched w ⟨t.val - 1, Nat.lt_of_le_of_lt (Nat.sub_le _ _) t.isLt⟩ d :=
  (dats m 0 c).fetched_congr w ((cfg0.win w).index_eq_of_fetch hw t hf).2 (hc _ _) d

theorem step0_1 (c : Dev nD) (t : Fin cfg0.N) (h0 : ¬t.val % 8 = 0) :
    (iblk m c 1 t : Vec F S4096x128 .bf16) = iblk m c 1 ⟨t.val - 1, Nat.lt_of_le_of_lt (Nat.sub_le _ _) t.isLt⟩ := by
  have hf : (cfg0.win 1).fetch t = false := by
    rw [← Bool.not_eq_true, fetch0_1]; exact h0
  have e : ∀ (t : Fin cfg0.N) (d), (dats m 0 c).fetched 1 t d = iblk m c 1 t := fun t d => by
    unfold Dat.fetched Dat.blockOf iblk; rw [A_eq]; try rfl
  have := step_of m c 1 rfl (fun _ _ => rfl) t hf (iblk m c 1 t)
  rw [e, e] at this; exact this

theorem step0_2 (c : Dev nD) (t : Fin cfg0.N) (h0 : ¬t.val % 8 = 0) :
    (iblk m c 2 t : Vec F S4096x128 .bf16) = iblk m c 2 ⟨t.val - 1, Nat.lt_of_le_of_lt (Nat.sub_le _ _) t.isLt⟩ := by
  have hf : (cfg0.win 2).fetch t = false := by
    rw [← Bool.not_eq_true, fetch0_2]; exact h0
  have e : ∀ (t : Fin cfg0.N) (d), (dats m 0 c).fetched 2 t d = iblk m c 2 t := fun t d => by
    unfold Dat.fetched Dat.blockOf iblk; rw [A_eq]; try rfl
  have := step_of m c 2 rfl (fun _ _ => rfl) t hf (iblk m c 2 t)
  rw [e, e] at this; exact this

theorem step0_3 (c : Dev nD) (t : Fin cfg0.N) (h0 : ¬t.val % 8 = 0) :
    (iblk m c 3 t : Vec F S1x1x256x128 .f32) = iblk m c 3 ⟨t.val - 1, Nat.lt_of_le_of_lt (Nat.sub_le _ _) t.isLt⟩ := by
  have hf : (cfg0.win 3).fetch t = false := by
    rw [← Bool.not_eq_true, fetch0_3]; exact h0
  have e : ∀ (t : Fin cfg0.N) (d), (dats m 0 c).fetched 3 t d = iblk m c 3 t := fun t d => by
    unfold Dat.fetched Dat.blockOf iblk; rw [A_eq]; try rfl
  have := step_of m c 3 rfl (fun _ _ => rfl) t hf (iblk m c 3 t)
  rw [e, e] at this; exact this

theorem step0_4 (c : Dev nD) (t : Fin cfg0.N) (h0 : ¬t.val % 8 = 0) :
    (iblk m c 4 t : Vec F S1x1x256x128 .f32) = iblk m c 4 ⟨t.val - 1, Nat.lt_of_le_of_lt (Nat.sub_le _ _) t.isLt⟩ := by
  have hf : (cfg0.win 4).fetch t = false := by
    rw [← Bool.not_eq_true, fetch0_4]; exact h0
  have e : ∀ (t : Fin cfg0.N) (d), (dats m 0 c).fetched 4 t d = iblk m c 4 t := fun t d => by
    unfold Dat.fetched Dat.blockOf iblk; rw [A_eq]; try rfl
  have := step_of m c 4 rfl (fun _ _ => rfl) t hf (iblk m c 4 t)
  rw [e, e] at this; exact this

theorem kAt_step (c : Dev nD) (t : Fin cfg0.N) (h0 : ¬t.val % 8 = 0) :
    kAt m c ⟨t.val - 1, Nat.lt_of_le_of_lt (Nat.sub_le _ _) t.isLt⟩ = kAt m c t := by
  unfold kAt; rw [step0_1 m c t h0, step0_3 m c t h0]

theorem vAt_step (c : Dev nD) (t : Fin cfg0.N) (h0 : ¬t.val % 8 = 0) :
    vAt m c ⟨t.val - 1, Nat.lt_of_le_of_lt (Nat.sub_le _ _) t.isLt⟩ = vAt m c t := by
  unfold vAt; rw [step0_2 m c t h0, step0_4 m c t h0]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
/-- The body at any point: at every eighth the keys and values are taken up, at the others they are those of the point
before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 512 := lt_of_lt_of_eq t.isLt (show cfg0.N = 512 from N_0)
  by_cases h0 : t.val % 8 = 0
  · by_cases hz : t.val = 0
    · rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS1]; · iexact HS1
      isplitl [HS2]; · iexact HS2
      isplitl [HS0]; · iexact HS0
      isplitl [HS3]; · iexact HS3
      isplitl [HS4]; · iexact HS4
      iintro ⟨H0, H1, H2, H3, H4, H5, H6, ⟨%e7, H7⟩, ⟨%es1, HS1⟩, ⟨%es2, HS2⟩, HS0, HS3, HS4⟩
      isplitl [HS0 HS1 HS2 HS3 HS4 Hg]
      · isplitl [HS0 HS1 HS2 HS3 HS4]
        · isplitl [HS0]; · iapply (owns_of_raw c scM0_0); iexact HS0
          isplitl [HS1]
          · unfold owns; iexists _; isplitr
            swap; · iexact HS1
            ipureintro; exact (View.read_writes_eq_canon _ _ _ (coverA_12 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_12 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
          isplitl [HS2]
          · unfold owns; iexists _; isplitr
            swap; · iexact HS2
            ipureintro; exact (View.read_writes_eq_canon _ _ _ (coverA_13 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_13 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
          isplitl [HS3]; · iapply (owns_of_raw c scM0_3); iexact HS3
          iapply (owns_of_raw c scM0_4); iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact (View.read_writes_eq_canon _ _ _ (coverA_10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_block c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS1]; · iexists _; iexact HS1
      isplitl [HS2]; · iexists _; iexact HS2
      isplitl [HS0]; · iexact HS0
      isplitl [HS3]; · iexact HS3
      isplitl [HS4]; · iexact HS4
      iintro ⟨H0, H1, H2, H3, H4, H5, H6, ⟨%e7, H7⟩, ⟨%es1, HS1⟩, ⟨%es2, HS2⟩, HS0, HS3, HS4⟩
      isplitl [HS0 HS1 HS2 HS3 HS4 Hg]
      · isplitl [HS0 HS1 HS2 HS3 HS4]
        · isplitl [HS0]; · iapply (owns_of_raw c scM0_0); iexact HS0
          isplitl [HS1]
          · unfold owns; iexists _; isplitr
            swap; · iexact HS1
            ipureintro; exact (View.read_writes_eq_canon _ _ _ (coverA_12 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_12 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
          isplitl [HS2]
          · unfold owns; iexists _; isplitr
            swap; · iexact HS2
            ipureintro; exact (View.read_writes_eq_canon _ _ _ (coverA_13 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_13 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
          isplitl [HS3]; · iapply (owns_of_raw c scM0_3); iexact HS3
          iapply (owns_of_raw c scM0_4); iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact (View.read_writes_eq_canon _ _ _ (coverA_10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))).trans (runA_block c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t))
  · have hz : t.val ≠ 0 := fun h => h0 (by rw [h])
    rw [PhiS_castSucc m c t, PhiS_pos m c _ _ hz, kAt_step m c t h0, vAt_step m c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (kAt m c t) (vAt m c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS1]; · iexact HS1
    isplitl [HS2]; · iexact HS2
    isplitl [HS0]; · iexact HS0
    isplitl [HS3]; · iexact HS3
    isplitl [HS4]; · iexact HS4
    iintro ⟨H0, H1, H2, H3, H4, H5, H6, ⟨%e7, H7⟩, HS1, HS2, HS0, HS3, HS4⟩
    isplitl [HS0 HS1 HS2 HS3 HS4 Hg]
    · isplitl [HS0 HS1 HS2 HS3 HS4]
      · isplitl [HS0]; · iapply (owns_of_raw c scM0_0); iexact HS0
        isplitl [HS1]; · iexact HS1
        isplitl [HS2]; · iexact HS2
        isplitl [HS3]; · iapply (owns_of_raw c scM0_3); iexact HS3
        iapply (owns_of_raw c scM0_4); iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact (View.read_writes_eq_canon _ _ _ (coverB_10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (kAt m c t) (vAt m c t))).trans (runB_block c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (kAt m c t) (vAt m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexact HS0
    isplitl [HS1]; · iexists _; iexact HS1
    isplitl [HS2]; · iexists _; iexact HS2
    isplitl [HS3]; · iexact HS3
    iexact HS4
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- The launch: every array of the pipeline ends at what the proof data gives, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.AttnIdeal.Gen

end
-- ==== Proof.AttnV.Equation.lean ====
/-
  One row of the differential attention over the extended reals: the two softmax maps taken apart, summed and subtracted
  give, after the row is normalised, the same output as the one difference map summed.
-/
module

public import Idealize.ShloMosaic.PureOps.Ideal

@[expose] public section

noncomputable section

namespace Cert.Proof.AttnRow

open Idealize.ShloMosaic
open scoped BigOperators

theorem coe_sum {ι : Type} (s : Finset ι) (f : ι → ℝ) : ((∑ k ∈ s, f k : ℝ) : EReal) = ∑ k ∈ s, (f k : EReal) :=
  map_sum (⟨⟨fun x : ℝ => (x : EReal), EReal.coe_zero⟩, EReal.coe_add⟩ : ℝ →+ EReal) f s

theorem exp2_bot : Ideal.exp2 ⊥ = 0 := rfl
theorem exp_bot : Ideal.exp ⊥ = 0 := rfl

/-- Two to the power of a score less the row's largest is a number that is not negative. -/
theorem exp2_sub_real {s m : EReal} (h : s ≤ m) : ∃ r : ℝ, 0 ≤ r ∧ Ideal.exp2 (s - m) = (r : EReal) := by
  induction m with
  | bot => exact ⟨0, le_rfl, by rw [le_bot_iff.mp h, EReal.bot_sub, exp2_bot, EReal.coe_zero]⟩
  | top => exact ⟨0, le_rfl, by rw [EReal.sub_top, exp2_bot, EReal.coe_zero]⟩
  | coe m =>
    induction s with
    | bot => exact ⟨0, le_rfl, by rw [EReal.bot_sub, exp2_bot, EReal.coe_zero]⟩
    | top => exact absurd h (by simp)
    | coe s => exact ⟨Real.rpow 2 (s - m), Real.rpow_nonneg (by norm_num) _, by rw [← EReal.coe_sub]; rfl⟩

/-- The natural exponential of the scaled scores' difference is two to the power of the scores' difference. -/
theorem exp_scaled {s m : EReal} (h : s ≤ m) :
    Ideal.exp (s * (Real.log 2 : ℝ) - m * (Real.log 2 : ℝ)) = Ideal.exp2 (s - m) := by
  have l2 : (0 : ℝ) < Real.log 2 := Real.log_pos (by norm_num)
  induction m with
  | bot => rw [le_bot_iff.mp h, EReal.bot_mul_coe_of_pos l2, EReal.bot_sub]; exact exp_bot.trans exp2_bot.symm
  | top => rw [EReal.top_mul_coe_of_pos l2, EReal.sub_top, EReal.sub_top]; exact exp_bot.trans exp2_bot.symm
  | coe m =>
    induction s with
    | bot => rw [EReal.bot_mul_coe_of_pos l2, EReal.bot_sub, EReal.bot_sub]; exact exp_bot.trans exp2_bot.symm
    | top => exact absurd h (by simp)
    | coe s =>
      rw [← EReal.coe_mul, ← EReal.coe_mul, ← EReal.coe_sub, ← EReal.coe_sub]
      show ((Real.exp _ : ℝ) : EReal) = ((2 : ℝ) ^ (s - m) : ℝ)
      rw [Real.rpow_def_of_pos (by norm_num)]
      exact congrArg (fun x : ℝ => ((Real.exp x : ℝ) : EReal)) (by ring)

/-- The largest of the scaled scores is the largest score scaled. -/
theorem sup_scaled {κ : Type} [Fintype κ] (s : κ → EReal) :
    (Finset.univ.sup fun k => s k * (Real.log 2 : ℝ)) = Finset.univ.sup s * (Real.log 2 : ℝ) := by
  have l2 : (0 : ℝ) < Real.log 2 := Real.log_pos (by norm_num)
  have hpos : (0 : EReal) < ((Real.log 2 : ℝ) : EReal) := EReal.coe_pos.mpr l2
  refine eq_of_forall_ge_iff fun x => ?_
  rw [Finset.sup_le_iff, ← EReal.le_div_iff_mul_le hpos (EReal.coe_ne_top _), Finset.sup_le_iff]
  exact forall_congr' fun k => imp_congr_right fun _ => (EReal.le_div_iff_mul_le hpos (EReal.coe_ne_top _)).symm

/-- A row divided by its root mean square and scaled by a gain and a factor. -/
def normal {ι : Type} [Fintype ι] (n eps c : EReal) (g o : ι → EReal) (e : ι) : EReal :=
  o e * Ideal.rsqrt (Ideal.div (∑ a, o a * o a) n + eps) * g e * c

/-- Nothing, or an infinity. -/
def Wild (x : EReal) : Prop := x = 0 ∨ x = ⊤ ∨ x = ⊥

theorem Wild.add {x y : EReal} (hx : Wild x) (hy : Wild y) : Wild (x + y) := by
  rcases hx with rfl | rfl | rfl <;> rcases hy with rfl | rfl | rfl <;> simp [Wild]

theorem Wild.sum {ι : Type} (s : Finset ι) (f : ι → EReal) (h : ∀ k, Wild (f k)) : Wild (∑ k ∈ s, f k) :=
  Finset.sum_induction f Wild (fun _ _ => Wild.add) (.inl rfl) fun k _ => h k

theorem Wild.coe_mul (r : ℝ) {x : EReal} (hx : Wild x) : Wild ((r : EReal) * x) := by
  rcases lt_trichotomy r 0 with h | rfl | h <;> rcases hx with rfl | rfl | rfl <;>
    simp [Wild, EReal.coe_mul_top_of_neg, EReal.coe_mul_bot_of_neg, EReal.coe_mul_top_of_pos, EReal.coe_mul_bot_of_pos, *]

/-- A row of nothing and infinities normalises to nothing. -/
theorem normal_wild {ι : Type} [Fintype ι] (n eps : ℝ) (hn : 0 < n) (c : EReal) (g o : ι → EReal) (h : ∀ e, Wild (o e)) (e : ι) :
    normal n eps c g o e = 0 := by
  unfold normal
  have sq : ∀ a, 0 ≤ o a * o a := fun a => by rcases h a with h | h | h <;> simp [h]
  have key : o e * Ideal.rsqrt (Ideal.div (∑ a, o a * o a) n + eps) = 0 := by
    rcases h e with he | he
    · rw [he, zero_mul]
    · have top : o e * o e = ⊤ := by rcases he with he | he <;> simp [he]
      have sum : (∑ a, o a * o a) = ⊤ :=
        top_le_iff.mp (top ▸ Finset.single_le_sum (fun a _ => sq a) (Finset.mem_univ e))
      have hd : Ideal.div ⊤ (n : EReal) = ⊤ := by
        unfold Ideal.div
        rw [if_neg (by exact_mod_cast hn.ne'), ← EReal.coe_inv, EReal.top_mul_coe_of_pos (inv_pos.mpr hn)]
      rw [sum, hd, EReal.top_add_coe]
      exact mul_zero _
  rw [key, zero_mul, zero_mul]

theorem div_coe (x y : ℝ) (h : y ≠ 0) : Ideal.div (x : EReal) (y : EReal) = ((x * y⁻¹ : ℝ) : EReal) := by
  unfold Ideal.div
  rw [if_neg (by exact_mod_cast h), ← EReal.coe_inv, ← EReal.coe_mul]

theorem div_zero : Ideal.div 0 0 = ⊥ := by simp [Ideal.div]

/-- The row's equation: `e0`, `e1` the two maps' weights before they are divided by their sums, `v` the values. -/
theorem row {κ ι : Type} [Fintype κ] [Fintype ι] (n eps : ℝ) (hn : 0 < n) (c : EReal) (g : ι → EReal) (lam : ℝ)
    (e0 e1 : κ → ℝ) (h0 : ∀ k, 0 ≤ e0 k) (h1 : ∀ k, 0 ≤ e1 k) (v : κ → ι → ℝ) (e : ι) :
    normal n eps c g (fun a => Ideal.div (∑ k, (e0 k : EReal) * (v k a : EReal)) (∑ k, (e0 k : EReal))
        - (lam : EReal) * Ideal.div (∑ k, (e1 k : EReal) * (v k a : EReal)) (∑ k, (e1 k : EReal))) e
      = normal n eps c g (fun a => ∑ k, (v k a : EReal) * (Ideal.div (e0 k) (∑ k, (e0 k : EReal))
        - (lam : EReal) * Ideal.div (e1 k) (∑ k, (e1 k : EReal)))) e := by
  have z : ∀ (f : κ → ℝ), (∀ k, 0 ≤ f k) → ∑ k, f k = 0 → ∀ k, f k = 0 := fun f hf hs k =>
    (Finset.sum_eq_zero_iff_of_nonneg fun k _ => hf k).mp hs k (Finset.mem_univ k)
  simp only [← EReal.coe_mul, ← coe_sum]
  by_cases d0 : ∑ k, e0 k = 0
  · have e00 := z e0 h0 d0
    rw [normal_wild n eps hn, normal_wild n eps hn]
    · intro a
      refine Wild.sum _ _ fun k => Wild.coe_mul _ ?_
      rw [e00 k, d0, EReal.coe_zero, div_zero, EReal.bot_sub]
      exact .inr (.inr rfl)
    · intro a
      simp only [e00, zero_mul, Finset.sum_const_zero, EReal.coe_zero]
      rw [div_zero, EReal.bot_sub]
      exact .inr (.inr rfl)
  · by_cases d1 : ∑ k, e1 k = 0
    · have e10 := z e1 h1 d1
      by_cases hl : lam = 0
      · subst hl
        refine congrFun (congrArg _ (funext fun a => ?_)) e
        simp only [EReal.coe_zero, zero_mul, sub_zero]
        rw [div_coe _ _ d0]
        simp only [div_coe _ _ d0, ← EReal.coe_mul, ← coe_sum]
        refine congrArg _ ?_
        rw [Finset.sum_mul]
        exact Finset.sum_congr rfl fun k _ => by ring
      · have w : ∀ r : ℝ, Wild ((r : EReal) - (lam : EReal) * ⊥) := fun r => by
          rcases lt_or_gt_of_ne hl with h | h
          · rw [EReal.coe_mul_bot_of_neg h]; exact .inr (.inr (by simp))
          · rw [EReal.coe_mul_bot_of_pos h]; exact .inr (.inl (by simp))
        rw [normal_wild n eps hn, normal_wild n eps hn]
        · intro a
          refine Wild.sum _ _ fun k => Wild.coe_mul _ ?_
          rw [e10 k, d1, EReal.coe_zero, div_zero, div_coe _ _ d0]
          exact w _
        · intro a
          simp only [e10, zero_mul, Finset.sum_const_zero, EReal.coe_zero]
          rw [div_zero, div_coe _ _ d0]
          exact w _
    · refine congrFun (congrArg _ (funext fun a => ?_)) e
      rw [div_coe _ _ d0, div_coe _ _ d1]
      simp only [div_coe _ _ d0, div_coe _ _ d1, ← EReal.coe_mul, ← EReal.coe_sub, ← coe_sum]
      refine congrArg _ ?_
      rw [Finset.sum_mul, Finset.sum_mul, Finset.mul_sum, ← Finset.sum_sub_distrib]
      exact Finset.sum_congr rfl fun k _ => by ring

/-- The kernel's row: two maps of weights two to the score less the row's largest, each summed against the values and
    divided by its own sum, the second subtracted times `lam`; then normalised. -/
def kernelRow {κ ι : Type} [Fintype κ] [Fintype ι] (n eps c lam : EReal) (g : ι → EReal) (s0 s1 : κ → EReal) (v : κ → ι → EReal)
    (e : ι) : EReal :=
  normal n eps c g (fun a => Ideal.div (∑ k, Ideal.exp2 (s0 k - Finset.univ.sup s0) * v k a) (∑ k, Ideal.exp2 (s0 k - Finset.univ.sup s0))
    - lam * Ideal.div (∑ k, Ideal.exp2 (s1 k - Finset.univ.sup s1) * v k a) (∑ k, Ideal.exp2 (s1 k - Finset.univ.sup s1))) e

/-- The reference's row: the softmax of the scores times `ln2`, the second map subtracted times `lam`, the difference
    summed against the values; then normalised. -/
def refRow {κ ι : Type} [Fintype κ] [Fintype ι] (n eps c lam ln2 : EReal) (g : ι → EReal) (s0 s1 : κ → EReal) (v : κ → ι → EReal)
    (e : ι) : EReal :=
  normal n eps c g (fun a => ∑ k, v k a *
    (Ideal.div (Ideal.exp (s0 k * ln2 - Finset.univ.sup fun k => s0 k * ln2)) (∑ k, Ideal.exp (s0 k * ln2 - Finset.univ.sup fun k => s0 k * ln2))
      - lam * Ideal.div (Ideal.exp (s1 k * ln2 - Finset.univ.sup fun k => s1 k * ln2))
        (∑ k, Ideal.exp (s1 k * ln2 - Finset.univ.sup fun k => s1 k * ln2)))) e

theorem row_eq {κ ι : Type} [Fintype κ] [Fintype ι] (n eps : ℝ) (hn : 0 < n) (c : EReal) (lam : ℝ) (g : ι → EReal)
    (s0 s1 : κ → EReal) (v : κ → ι → ℝ) (e : ι) :
    kernelRow n eps c lam g s0 s1 (fun k a => (v k a : EReal)) e
      = refRow n eps c lam (Real.log 2 : ℝ) g s0 s1 (fun k a => (v k a : EReal)) e := by
  unfold kernelRow refRow
  have le0 : ∀ k, s0 k ≤ Finset.univ.sup s0 := fun k => Finset.le_sup (Finset.mem_univ k)
  have le1 : ∀ k, s1 k ≤ Finset.univ.sup s1 := fun k => Finset.le_sup (Finset.mem_univ k)
  simp only [sup_scaled, exp_scaled (le0 _), exp_scaled (le1 _)]
  choose e0 h0 q0 using fun k => exp2_sub_real (le0 k)
  choose e1 h1 q1 using fun k => exp2_sub_real (le1 k)
  simp only [q0, q1]
  exact row n eps hn c g lam e0 e1 h0 h1 v e

end Cert.Proof.AttnRow

end
-- ==== Proof.AttnV.Consts.lean ====
/-
  The float constants the attention spells, as the numbers they denote.
-/
module

public import Idealize.ShloMosaic.PureOps.Ideal

@[expose] public section

noncomputable section

namespace Cert.Proof.AttnRow

open Idealize.ShloMosaic

/-- The least value a maximum starts from. -/
theorem least : Ideal.ofBits .f32 0xFF800000#32 = ⊥ := by
  simp [Ideal.ofBits, Ideal.ieee]

theorem infinite : Ideal.ofBits .f32 0x7F800000#32 = ⊤ := by
  simp [Ideal.ofBits, Ideal.ieee]

theorem two : Ideal.ofBits .f32 0x40000000#32 = ((2 : ℝ) : EReal) := by
  simp [Ideal.ofBits, Ideal.ieee, -EReal.coe_mul]; norm_num

theorem one_short : Ideal.ofBits .bf16 0x3F80#16 = 1 := by
  have e : (128 : ℝ) * (2 ^ 7)⁻¹ = 1 := by norm_num
  simp [Ideal.ofBits, Ideal.ieee, -EReal.coe_mul, e]

theorem lanes : Ideal.ofBits .f32 0x43000000#32 = ((128 : ℝ) : EReal) := by
  simp [Ideal.ofBits, Ideal.ieee, -EReal.coe_mul]; norm_num

theorem eps_real : ∃ r : ℝ, Ideal.ofBits .f32 0x358637BD#32 = (r : EReal) := by
  simp [Ideal.ofBits, Ideal.ieee, -EReal.coe_mul]

theorem fifth_real : ∃ r : ℝ, Ideal.ofBits .f32 0x3E4CCCCD#32 = (r : EReal) := by
  simp [Ideal.ofBits, Ideal.ieee, -EReal.coe_mul]

theorem log_two : Ideal.log (Ideal.ofBits .f32 0x40000000#32) = ((Real.log 2 : ℝ) : EReal) := by
  rw [two]
  show (if (2 : ℝ) ≤ 0 then (⊥ : EReal) else _) = _
  rw [if_neg (by norm_num)]

end Cert.Proof.AttnRow

end
-- ==== Proof.AttnV.Block.lean ====
/-
  One grid point of the attention: the block it writes, element by element.
-/
module

public import proofs.«01_k».proof.Proof.AttnI.Frame
public import proofs.«01_k».proof.Proof.AttnV.Equation
public import proofs.«01_k».proof.Proof.AttnV.Consts
public import Idealize.ShloMosaic.Lib.Pipeline.ValueKit
public import Idealize.ShloMosaic.Lib.Pointwise
public import Idealize.ShloMosaic.Lib.Pipeline.ReadBack

@[expose] public section

noncomputable section

namespace Cert.AttnIdeal.Value

open Cert.AttnIdeal Cert.AttnIdeal.Gen Idealize.ShloMosaic Idealize.ShloMosaic.TcCoe Idealize.SL.Sem
open scoped BigOperators

/-- The queries of a head twice: the first copy keeps the first map's 64 lanes, the second the second map's. -/
def twice (x : Vec Ideal S512x128 .bf16) (r : Fin 1024) (d : Fin 128) : EReal :=
  if h : r.val < 512 then (if d.val < 64 then x (ix2 ⟨r.val, h⟩ d) else 0)
  else (if d.val < 64 then 0 else x (ix2 ⟨r.val - 512, by omega⟩ d))

theorem lane_lt : ∀ d : Fin 128, IntOp.cmpi CmpIPredicate.slt (BitVec.ofNat 32 d.val) 64#32 = if d.val < 64 then 1#1 else 0#1 := by
  decide +kernel

theorem pay6_apply (x : Vec Ideal S512x128 .bf16) (r : Fin 1024) (d : Fin 128) :
    k0_pay6 (F := Ideal) x (ix2 r d) = twice x r d := by
  pointwise [k0_pay6]
  rw [lane_lt d]
  unfold twice
  by_cases h : r.val < 512 <;> by_cases hd : d.val < 64 <;> simp [h, hd, Scalar.select]

theorem pay7_apply (x : Vec Ideal S512x128 .bf16) (xk : Vec Ideal S2304x128 .bf16) (r : Fin 1024) (k : Fin 2304) :
    k0_pay7 (F := Ideal) x xk (ix2 r k) = ∑ d : Fin 128, twice x r d * xk (ix2 k d) := by
  simp only [← pay6_apply]
  unfold k0_pay7
  generalize k0_pay6 (F := Ideal) x = q
  pointwise

theorem pay13_apply (x : Vec Ideal S512x128 .bf16) (xk : Vec Ideal S2048x128 .bf16) (r : Fin 1024) (k : Fin 2048) :
    k0_pay13 (F := Ideal) x xk (ix2 r k) = ∑ d : Fin 128, twice x r d * xk (ix2 k d) := by
  simp only [← pay6_apply]
  unfold k0_pay13
  generalize k0_pay6 (F := Ideal) x = q
  pointwise

theorem pay8_apply (x : Vec Ideal S512x128 .bf16) (xk : Vec Ideal S2304x128 .bf16) (r : Fin 1024) (k : Fin 2304) :
    k0_pay8 (F := Ideal) x xk (ix2 r k) = ∑ d : Fin 128, twice x r d * xk (ix2 k d) := by
  rw [← pay7_apply]
  unfold k0_pay8
  generalize k0_pay7 (F := Ideal) x xk = q
  pointwise

theorem pay14_apply (x : Vec Ideal S512x128 .bf16) (xk : Vec Ideal S2048x128 .bf16) (r : Fin 1024) (k : Fin 2048) :
    k0_pay14 (F := Ideal) x xk (ix2 r k) = ∑ d : Fin 128, twice x r d * xk (ix2 k d) := by
  rw [← pay13_apply]
  unfold k0_pay14
  generalize k0_pay13 (F := Ideal) x xk = q
  pointwise

/-- Lane `j` of the running maximum bounds the scores of the keys at lane `j`, and is the least that does. -/
theorem pay9_le (x : Vec Ideal S512x128 .bf16) (xk : Vec Ideal S2304x128 .bf16) (r : Fin 1024) (j : Fin 128) (z : EReal) :
    k0_pay9 (F := Ideal) x xk (ix2 r j) ≤ z ↔ ∀ k : Fin 2304, k.val % 128 = j.val → k0_pay7 (F := Ideal) x xk (ix2 r k) ≤ z := by
  unfold k0_pay9
  generalize k0_pay7 (F := Ideal) x xk = q
  pointwise
  rw [Cert.Proof.AttnRow.least]
  simp only [max_le_iff]
  refine ⟨fun h k hk => ?_, fun h => ?_⟩
  · obtain ⟨a, hlt, e⟩ : ∃ (a : ℕ) (ha : a < 18), k = ⟨128 * a + j.val, by omega⟩ :=
      ⟨k.val / 128, by omega, Fin.ext (by dsimp only; omega)⟩
    rw [e]
    clear e
    interval_cases a
    · simpa only [Nat.mul_zero, Nat.zero_add] using h.1.1.1.1.1.1.1.1.1.1.1.1.1.1.1.1.1.2
    · exact h.1.1.1.1.1.1.1.1.1.1.1.1.1.1.1.1.2
    · exact h.1.1.1.1.1.1.1.1.1.1.1.1.1.1.1.2
    · exact h.1.1.1.1.1.1.1.1.1.1.1.1.1.1.2
    · exact h.1.1.1.1.1.1.1.1.1.1.1.1.1.2
    · exact h.1.1.1.1.1.1.1.1.1.1.1.1.2
    · exact h.1.1.1.1.1.1.1.1.1.1.1.2
    · exact h.1.1.1.1.1.1.1.1.1.1.2
    · exact h.1.1.1.1.1.1.1.1.1.2
    · exact h.1.1.1.1.1.1.1.1.2
    · exact h.1.1.1.1.1.1.1.2
    · exact h.1.1.1.1.1.1.2
    · exact h.1.1.1.1.1.2
    · exact h.1.1.1.1.2
    · exact h.1.1.1.2
    · exact h.1.1.2
    · exact h.1.2
    · exact h.2
  · repeat' apply And.intro
    · exact bot_le
    all_goals exact h _ (by dsimp only; omega)

/-- The maximum over the lanes after the second part of the keys. -/
theorem pay15_le (x : Vec Ideal S512x128 .bf16) (xk : Vec Ideal S2048x128 .bf16) (m : Vec Ideal S1024x128 .f32) (r : Fin 1024) (l : Fin 128)
    (z : EReal) : k0_pay15 (F := Ideal) x xk m (ix2 r l) ≤ z
      ↔ (∀ j : Fin 128, m (ix2 r j) ≤ z) ∧ ∀ k : Fin 2048, k0_pay13 (F := Ideal) x xk (ix2 r k) ≤ z := by
  unfold k0_pay15
  generalize k0_pay13 (F := Ideal) x xk = q
  pointwise
  rw [Cert.Proof.AttnRow.least, Finset.fold_max_le]
  simp only [max_le_iff]
  refine ⟨fun h => ⟨fun j => ?_, fun k => ?_⟩, fun h => ⟨bot_le, fun j _ => ?_⟩⟩
  · exact (h.2 j (Finset.mem_univ j)).1.1.1.1.1.1.1.1.1.1.1.1.1.1.1.1
  · obtain ⟨j, a, hlt, rfl⟩ : ∃ (j : Fin 128) (a : ℕ) (ha : a < 16), k = ⟨128 * a + j.val, by omega⟩ :=
      ⟨⟨k.val % 128, by omega⟩, k.val / 128, by omega, Fin.ext (by dsimp only; omega)⟩
    have h' := h.2 j (Finset.mem_univ j)
    clear h
    interval_cases a
    · simpa only [Nat.mul_zero, Nat.zero_add] using h'.1.1.1.1.1.1.1.1.1.1.1.1.1.1.1.2
    · exact h'.1.1.1.1.1.1.1.1.1.1.1.1.1.1.2
    · exact h'.1.1.1.1.1.1.1.1.1.1.1.1.1.2
    · exact h'.1.1.1.1.1.1.1.1.1.1.1.1.2
    · exact h'.1.1.1.1.1.1.1.1.1.1.1.2
    · exact h'.1.1.1.1.1.1.1.1.1.1.2
    · exact h'.1.1.1.1.1.1.1.1.1.2
    · exact h'.1.1.1.1.1.1.1.1.2
    · exact h'.1.1.1.1.1.1.1.2
    · exact h'.1.1.1.1.1.1.2
    · exact h'.1.1.1.1.1.2
    · exact h'.1.1.1.1.2
    · exact h'.1.1.1.2
    · exact h'.1.1.2
    · exact h'.1.2
    · exact h'.2
  · repeat' apply And.intro
    · exact h.1 j
    all_goals exact h.2 _

theorem cat18 (mx : Vec Ideal S1024x128 .f32) (M : Fin 1024 → EReal) (hM : ∀ r j, mx (ix2 r j) = M r) (r : Fin 1024) (k : Fin 2304)
    (h : Shape.Concatenates ((List.replicate 18 (⟨S1024x128, mx⟩ : (s : Shape) × (s.Idx → EReal))).map (·.1)) S1024x2304 1) :
    concatenate S1024x2304 1 (List.replicate 18 (⟨S1024x128, mx⟩ : (s : Shape) × (s.Idx → EReal))) h (ix2 r k) = M r := by
  refine (concatenate_replicate_apply 1 18 mx h rfl (ix2 r k) (ix2 r ⟨k.val % 128, by omega⟩) rfl fun b hb => ?_).trans (hM _ _)
  fin_cases b
  · rfl
  · exact absurd rfl hb

theorem cat16 (mx : Vec Ideal S1024x128 .f32) (M : Fin 1024 → EReal) (hM : ∀ r j, mx (ix2 r j) = M r) (r : Fin 1024) (k : Fin 2048)
    (h : Shape.Concatenates ((List.replicate 16 (⟨S1024x128, mx⟩ : (s : Shape) × (s.Idx → EReal))).map (·.1)) S1024x2048 1) :
    concatenate S1024x2048 1 (List.replicate 16 (⟨S1024x128, mx⟩ : (s : Shape) × (s.Idx → EReal))) h (ix2 r k) = M r := by
  refine (concatenate_replicate_apply 1 16 mx h rfl (ix2 r k) (ix2 r ⟨k.val % 128, by omega⟩) rfl fun b hb => ?_).trans (hM _ _)
  fin_cases b
  · rfl
  · exact absurd rfl hb

theorem pay19_apply (s : Vec Ideal S1024x2304 .f32) (xv : Vec Ideal S2304x128 .bf16) (mx : Vec Ideal S1024x128 .f32) (M : Fin 1024 → EReal)
    (hM : ∀ r j, mx (ix2 r j) = M r) (r : Fin 1024) (e : Fin 256) :
    k0_pay19 (F := Ideal) s xv mx (ix2 r e)
      = ∑ k : Fin 2304, Ideal.exp2 (s (ix2 r k) - M r) * (if h : e.val < 128 then xv (ix2 k ⟨e.val, h⟩) else 1) := by
  have hc := cat18 mx M hM r
  unfold k0_pay19
  generalize hg : concatenate S1024x2304 1 _ _ = cat at *
  have hc' : ∀ k : Fin 2304, cat (ix2 r k) = M r := fun k => by rw [← hg]; exact hc k _
  pointwise
  simp only [hc', Cert.Proof.AttnRow.one_short]
  rfl

theorem pay21_apply (s : Vec Ideal S1024x2048 .f32) (xv : Vec Ideal S2048x128 .bf16) (mx : Vec Ideal S1024x128 .f32) (M : Fin 1024 → EReal)
    (hM : ∀ r j, mx (ix2 r j) = M r) (acc : Vec Ideal S1024x256 .f32) (r : Fin 1024) (e : Fin 256) :
    k0_pay21 (F := Ideal) s xv mx acc (ix2 r e) = acc (ix2 r e)
      + ∑ k : Fin 2048, Ideal.exp2 (s (ix2 r k) - M r) * (if h : e.val < 128 then xv (ix2 k ⟨e.val, h⟩) else 1) := by
  have hc := cat16 mx M hM r
  unfold k0_pay21
  generalize hg : concatenate S1024x2048 1 _ _ = cat at *
  have hc' : ∀ k : Fin 2048, cat (ix2 r k) = M r := fun k => by rw [← hg]; exact hc k _
  pointwise
  simp only [hc', Cert.Proof.AttnRow.one_short]
  rfl

/-- The mixing weight of the two maps. -/
def mix (w : Vec Ideal S4x64 .f32) : EReal :=
  Ideal.exp (∑ d : Fin 64, w (ix2 0 d) * w (ix2 1 d)) - Ideal.exp (∑ d : Fin 64, w (ix2 2 d) * w (ix2 3 d))
    + Ideal.ofBits .f32 0x3E4CCCCD#32

theorem pay23_apply (a l : Vec Ideal S1024x128 .f32) (w : Vec Ideal S4x64 .f32) (r : Fin 512) (e : Fin 128) :
    k0_pay23 (F := Ideal) a l w (ix2 r e) = Ideal.div (a (ix2 ⟨r.val, by omega⟩ e)) (l (ix2 ⟨r.val, by omega⟩ e))
      - mix w * Ideal.div (a (ix2 ⟨512 + r.val, by omega⟩ e)) (l (ix2 ⟨512 + r.val, by omega⟩ e)) := by
  pointwise [k0_pay23, mix]

theorem out_apply (a l : Vec Ideal S1024x128 .f32) (w : Vec Ideal S4x64 .f32) (g : Vec Ideal S1x128 .f32) (r : Fin 512) (e : Fin 128) :
    k0_pay1 (F := Ideal) (k0_pay23 a l w) (k0_pay24 a l w) (FloatOps.ofBits .f32 897988541#32) g (ix2 r e)
      = Cert.Proof.AttnRow.normal (Ideal.ofBits .f32 0x43000000#32) (Ideal.ofBits .f32 0x358637BD#32) (Ideal.ofBits .f32 0x3F4CCCCD#32)
          (fun e => g (ix2 0 e)) (fun e => k0_pay23 (F := Ideal) a l w (ix2 r e)) e := by
  unfold k0_pay24 k0_pay1
  generalize k0_pay23 (F := Ideal) a l w = o
  pointwise [Cert.Proof.AttnRow.normal]

theorem part1_apply (x : Vec Ideal S4352x128 .bf16) (k : Fin 2304) (d : Fin 128) : part1 x (ix2 k d) = x (ix2 ⟨k.val, by omega⟩ d) := by
  show x ((Rect.unit (s := S4352x128) ![0, 0] ![2304, 128] inb_S4352x128_S2304x128_0_0).emb (ix2 k d)) = _
  refine congrArg x ?_
  blk_ext

theorem part2_apply (x : Vec Ideal S4352x128 .bf16) (k : Fin 2048) (d : Fin 128) : part2 x (ix2 k d) = x (ix2 ⟨2304 + k.val, by omega⟩ d) := by
  show x ((Rect.unit (s := S4352x128) ![2304, 0] ![2048, 128] inb_S4352x128_S2048x128_2304_0).emb (ix2 k d)) = _
  refine congrArg x ?_
  blk_ext

/-- A row of the doubled queries against a key. -/
def score (x : Vec Ideal S512x128 .bf16) (xk : Vec Ideal S4352x128 .bf16) (r : Fin 1024) (k : Fin 4352) : EReal :=
  ∑ d : Fin 128, twice x r d * xk (ix2 k d)

/-- The first map's score: the first 64 lanes. -/
def score0 (x : Vec Ideal S512x128 .bf16) (xk : Vec Ideal S4352x128 .bf16) (r : Fin 512) (k : Fin 4352) : EReal :=
  ∑ d : Fin 64, x (ix2 r ⟨d.val, by omega⟩) * xk (ix2 k ⟨d.val, by omega⟩)

/-- The second map's score: the last 64 lanes. -/
def score1 (x : Vec Ideal S512x128 .bf16) (xk : Vec Ideal S4352x128 .bf16) (r : Fin 512) (k : Fin 4352) : EReal :=
  ∑ d : Fin 64, x (ix2 r ⟨64 + d.val, by omega⟩) * xk (ix2 k ⟨64 + d.val, by omega⟩)

theorem split128 (f : Fin 128 → EReal) :
    ∑ d, f d = (∑ d : Fin 64, f ⟨d.val, by omega⟩) + ∑ d : Fin 64, f ⟨64 + d.val, by omega⟩ :=
  Fin.sum_univ_add (a := 64) (b := 64) f

theorem split4352 (f : Fin 4352 → EReal) :
    ∑ k, f k = (∑ k : Fin 2304, f ⟨k.val, by omega⟩) + ∑ k : Fin 2048, f ⟨2304 + k.val, by omega⟩ :=
  Fin.sum_univ_add (a := 2304) (b := 2048) f

theorem score_first (x : Vec Ideal S512x128 .bf16) (xk : Vec Ideal S4352x128 .bf16) (r : Fin 512) :
    score x xk ⟨r.val, by omega⟩ = score0 x xk r := by
  funext k
  unfold score score0
  rw [split128, Finset.sum_eq_zero (s := Finset.univ) (f := fun d : Fin 64 => twice x ⟨r.val, _⟩ ⟨64 + d.val, _⟩ * _), add_zero]
  · exact Finset.sum_congr rfl fun d _ => congrArg (· * _) (by rw [twice, dif_pos r.isLt, if_pos d.isLt])
  · exact fun d _ => by rw [twice, dif_pos r.isLt, if_neg (by dsimp only; omega), zero_mul]

theorem score_second (x : Vec Ideal S512x128 .bf16) (xk : Vec Ideal S4352x128 .bf16) (r : Fin 512) :
    score x xk ⟨512 + r.val, by omega⟩ = score1 x xk r := by
  funext k
  unfold score score1
  rw [split128, Finset.sum_eq_zero (s := Finset.univ) (f := fun d : Fin 64 => twice x ⟨512 + r.val, _⟩ ⟨d.val, _⟩ * _), zero_add]
  · refine Finset.sum_congr rfl fun d _ => congrArg (· * _) ?_
    rw [twice, dif_neg (by dsimp only; omega), if_neg (by dsimp only; omega)]
    exact congrArg x (congrArg (ix2 · _) (Fin.ext (by dsimp only; omega)))
  · exact fun d _ => by rw [twice, dif_neg (by dsimp only; omega), if_pos d.isLt, zero_mul]

theorem rowMax_apply (x : Vec Ideal S512x128 .bf16) (xk : Vec Ideal S4352x128 .bf16) (r : Fin 1024) (l : Fin 128) :
    rowMax (F := Ideal) x xk (ix2 r l) = Finset.univ.sup (score x xk r) := by
  refine eq_of_forall_ge_iff fun z => ?_
  unfold rowMax
  rw [pay15_le, Finset.sup_le_iff]
  simp only [pay9_le, pay7_apply, pay13_apply, part1_apply, part2_apply]
  refine ⟨fun h k _ => ?_, fun h => ⟨fun j k _ => h ⟨k.val, by omega⟩ (Finset.mem_univ _), fun k => h ⟨2304 + k.val, by omega⟩ (Finset.mem_univ _)⟩⟩
  by_cases hk : k.val < 2304
  · exact h.1 ⟨k.val % 128, by omega⟩ ⟨k.val, hk⟩ rfl
  · have e : k = ⟨2304 + (k.val - 2304), by omega⟩ := Fin.ext (by dsimp only; omega)
    rw [e]
    exact h.2 ⟨k.val - 2304, by omega⟩

theorem sums_apply (x : Vec Ideal S512x128 .bf16) (xk xv : Vec Ideal S4352x128 .bf16) (r : Fin 1024) (e : Fin 256) :
    sums (F := Ideal) x xk xv (ix2 r e) = ∑ k : Fin 4352, Ideal.exp2 (score x xk r k - Finset.univ.sup (score x xk r))
      * (if h : e.val < 128 then xv (ix2 k ⟨e.val, h⟩) else 1) := by
  unfold sums
  rw [pay21_apply _ _ _ _ (rowMax_apply x xk), pay19_apply _ _ _ _ (rowMax_apply x xk), split4352]
  simp only [pay8_apply, pay14_apply, part1_apply, part2_apply]
  rfl

theorem sumsV_apply (x : Vec Ideal S512x128 .bf16) (xk xv : Vec Ideal S4352x128 .bf16) (r : Fin 1024) (e : Fin 128) :
    sumsV (F := Ideal) x xk xv (ix2 r e)
      = ∑ k : Fin 4352, Ideal.exp2 (score x xk r k - Finset.univ.sup (score x xk r)) * xv (ix2 k e) := by
  have h : sumsV (F := Ideal) x xk xv (ix2 r e) = sums (F := Ideal) x xk xv (ix2 r ⟨e.val, by omega⟩) := by
    unfold sumsV
    blk_ext!
  rw [h, sums_apply]
  exact Finset.sum_congr rfl fun k _ => congrArg _ (dif_pos e.isLt)

theorem sumsW_apply (x : Vec Ideal S512x128 .bf16) (xk xv : Vec Ideal S4352x128 .bf16) (r : Fin 1024) (e : Fin 128) :
    sumsW (F := Ideal) x xk xv (ix2 r e)
      = ∑ k : Fin 4352, Ideal.exp2 (score x xk r k - Finset.univ.sup (score x xk r)) := by
  have h : sumsW (F := Ideal) x xk xv (ix2 r e) = sums (F := Ideal) x xk xv (ix2 r ⟨128 + e.val, by omega⟩) := by
    unfold sumsW
    blk_ext!
  rw [h, sums_apply]
  exact Finset.sum_congr rfl fun k _ => (congrArg _ (dif_neg (by dsimp only; omega))).trans (mul_one _)

/-- The block the body writes, element by element. -/
theorem block_apply (x : Vec Ideal S512x128 .bf16) (xk xv : Vec Ideal S4352x128 .bf16) (w : Vec Ideal S4x64 .f32) (g : Vec Ideal S1x128 .f32)
    (r : Fin 512) (e : Fin 128) :
    block (F := Ideal) x xk xv w g (ix2 r e) = Cert.Proof.AttnRow.kernelRow (Ideal.ofBits .f32 0x43000000#32) (Ideal.ofBits .f32 0x358637BD#32)
      (Ideal.ofBits .f32 0x3F4CCCCD#32) (mix w) (fun e => g (ix2 0 e)) (score0 x xk r) (score1 x xk r) (fun k e => xv (ix2 k e)) e := by
  unfold block
  rw [out_apply]
  unfold Cert.Proof.AttnRow.kernelRow
  simp only [pay23_apply, sumsV_apply, sumsW_apply, score_first, score_second]

/-- A head's 4352 rows: 4096 of the sequence, then 256 of the cache. -/
def rows (a : Vec Ideal S4096x128 .bf16) (b : Vec Ideal S1x1x256x128 .f32) (k : Fin 4352) (d : Fin 128) : EReal :=
  if h : k.val < 4096 then a (ix2 ⟨k.val, h⟩ d) else b (ix4 0 0 ⟨k.val - 4096, by omega⟩ d)

theorem pay2_apply (a : Vec Ideal S4096x128 .bf16) (k : Fin 4096) (d : Fin 128) : k0_pay2 (F := Ideal) a (ix2 k d) = a (ix2 k d) := by
  pointwise [k0_pay2]
theorem pay3_apply (a : Vec Ideal S4096x128 .bf16) (k : Fin 4096) (d : Fin 128) : k0_pay3 (F := Ideal) a (ix2 k d) = a (ix2 k d) := by
  pointwise [k0_pay3]
theorem pay4_apply (b : Vec Ideal S1x1x256x128 .f32) (k : Fin 256) (d : Fin 128) : k0_pay4 (F := Ideal) b (ix2 k d) = b (ix4 0 0 k d) := by
  pointwise [k0_pay4]
theorem pay5_apply (b : Vec Ideal S1x1x256x128 .f32) (k : Fin 256) (d : Fin 128) : k0_pay5 (F := Ideal) b (ix2 k d) = b (ix4 0 0 k d) := by
  pointwise [k0_pay5]

theorem canon_rows (p : Vec Ideal S256x128 .bf16) (q : Vec Ideal S4096x128 .bf16) (k : Fin 4352) (d : Fin 128) :
    View.canon (Val := Elt Ideal) (s := S4352x128) (e := .bf16) [⟨Rect.unit ![4096, 0] ![256, 128] inb_S4352x128_S256x128_4096_0, p⟩,
      ⟨Rect.unit ![0, 0] ![4096, 128] inb_S4352x128_S4096x128_0_0, q⟩] (ix2 k d)
      = if h : k.val < 4096 then q (ix2 ⟨k.val, h⟩ d) else p (ix2 ⟨k.val - 4096, by omega⟩ d) := by
  by_cases h : k.val < 4096
  · rw [dif_pos h, View.canon_cons_of_not_mem]
    · have e : (ix2 k d : S4352x128.Idx) = (Rect.unit (s := S4352x128) ![0, 0] ![4096, 128] inb_S4352x128_S4096x128_0_0).emb (ix2 ⟨k.val, h⟩ d) := by
        blk_ext
      rw [e, View.canon_cons_emb]
    · intro hm
      have h' : 4096 ≤ k.val := ((Rect.mem_set_unit (inb := inb_S4352x128_S256x128_4096_0)).mp hm 0).1
      omega
  · rw [dif_neg h]
    have e : (ix2 k d : S4352x128.Idx) = (Rect.unit (s := S4352x128) ![4096, 0] ![256, 128] inb_S4352x128_S256x128_4096_0).emb
        (ix2 ⟨k.val - 4096, by omega⟩ d) := by
      blk_ext
    rw [e, View.canon_cons_emb]

theorem keys_apply (a : Vec Ideal S4096x128 .bf16) (b : Vec Ideal S1x1x256x128 .f32) (k : Fin 4352) (d : Fin 128) :
    keys (F := Ideal) a b (ix2 k d) = rows a b k d := by
  unfold keys rows
  rw [canon_rows]
  simp only [pay2_apply, pay4_apply]

theorem vals_apply (a : Vec Ideal S4096x128 .bf16) (b : Vec Ideal S1x1x256x128 .f32) (k : Fin 4352) (d : Fin 128) :
    vals (F := Ideal) a b (ix2 k d) = rows a b k d := by
  unfold vals rows
  rw [canon_rows]
  simp only [pay3_apply, pay5_apply]

end Cert.AttnIdeal.Value

end
-- ==== Proof.AttnV.Array.lean ====
/-
  The attention's result array, element by element.
-/
module

public import proofs.«01_k».proof.Proof.AttnV.Block

@[expose] public section

noncomputable section

namespace Cert.AttnIdeal.Value

open Cert.AttnIdeal Cert.AttnIdeal.Gen Idealize.ShloMosaic Idealize.ShloMosaic.TcCoe Idealize.SL.Sem
open scoped BigOperators

/-- Row `k` of batch `b`'s keys, map `j` of head `h`, lane `d`: the sequence's 4096 rows, then layer 0's cached rows. -/
def key (kn : Vec Ideal S32768x1024 .bf16) (ck : Vec Ideal S8x2x256x8x2x64 .f32) (b h : Fin 8) (j : Fin 2) (k : Fin 4352) (d : Fin 64) : EReal :=
  if hk : k.val < 4096 then kn (ix2 ⟨b.val * 4096 + k.val, by omega⟩ ⟨h.val * 128 + j.val * 64 + d.val, by omega⟩)
  else ck (ix6 b 0 ⟨k.val - 4096, by omega⟩ h j d)

/-- Row `k` of batch `b`'s values, head `h`, lane `e`. -/
def value (pr : Vec Ideal S32768x5120 .bf16) (cv : Vec Ideal S8x2x256x8x128 .f32) (b h : Fin 8) (k : Fin 4352) (e : Fin 128) : EReal :=
  if hk : k.val < 4096 then pr (ix2 ⟨b.val * 4096 + k.val, by omega⟩ ⟨2048 + h.val * 128 + e.val, by omega⟩)
  else cv (ix5 b 0 ⟨k.val - 4096, by omega⟩ h e)

/-- The score of token `r` against row `k` in map `j` of head `h`. -/
def scores (qn kn : Vec Ideal S32768x1024 .bf16) (ck : Vec Ideal S8x2x256x8x2x64 .f32) (r : Fin 32768) (h : Fin 8) (j : Fin 2) (k : Fin 4352) : EReal :=
  ∑ d : Fin 64, qn (ix2 r ⟨h.val * 128 + j.val * 64 + d.val, by omega⟩) * key kn ck ⟨r.val / 4096, by omega⟩ h j k d

/-- The attention's output: token `r`, head `h`, lane `e`. -/
def head (qn kn : Vec Ideal S32768x1024 .bf16) (pr : Vec Ideal S32768x5120 .bf16) (ck : Vec Ideal S8x2x256x8x2x64 .f32)
    (cv : Vec Ideal S8x2x256x8x128 .f32) (w : Vec Ideal S4x64 .f32) (g : Vec Ideal S128 .f32) (r : Fin 32768) (h : Fin 8) (e : Fin 128) : EReal :=
  Cert.Proof.AttnRow.kernelRow (Ideal.ofBits .f32 0x43000000#32) (Ideal.ofBits .f32 0x358637BD#32) (Ideal.ofBits .f32 0x3F4CCCCD#32) (mix w)
    (fun e => g (ix1 e)) (scores qn kn ck r h 0) (scores qn kn ck r h 1) (value pr cv ⟨r.val / 4096, by omega⟩ h) e

/-- The attention's output array. -/
def out (qn kn : Vec Ideal S32768x1024 .bf16) (pr : Vec Ideal S32768x5120 .bf16) (ck : Vec Ideal S8x2x256x8x2x64 .f32)
    (cv : Vec Ideal S8x2x256x8x128 .f32) (w : Vec Ideal S4x64 .f32) (g : Vec Ideal S128 .f32) (i : S32768x1024.Idx) : EReal :=
  have hj : (i 1).val < 1024 := (i 1).isLt
  head qn kn pr ck cv w g (i 0) ⟨(i 1).val / 128, by omega⟩ ⟨(i 1).val % 128, by omega⟩

theorem idx0 : ∀ t : Fin cfg0.N, win0_0.index t = ![t.val / 64 * 8 + t.val % 8, t.val / 8 % 8] := (by decide +kernel : ∀ t : Fin grid0.N, _)
theorem idx1 : ∀ t : Fin cfg0.N, win0_1.index t = ![t.val / 64, t.val / 8 % 8] := (by decide +kernel : ∀ t : Fin grid0.N, _)
theorem idx2 : ∀ t : Fin cfg0.N, win0_2.index t = ![t.val / 64, 16 + t.val / 8 % 8] := (by decide +kernel : ∀ t : Fin grid0.N, _)
theorem idx3 : ∀ t : Fin cfg0.N, win0_3.index t = ![t.val / 64, 0, 0, t.val / 8 % 8] := (by decide +kernel : ∀ t : Fin grid0.N, _)
theorem idx4 : ∀ t : Fin cfg0.N, win0_4.index t = ![t.val / 64, 0, 0, t.val / 8 % 8] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 64 * 8 + t.val % 8, t.val / 8 % 8] := (by decide +kernel : ∀ t : Fin grid0.N, _)

variable (m : (ℓ : Loc nD τ sig) → Buf (Elt Ideal) ℓ)

theorem pt_lt (t : Fin cfg0.N) : t.val < 512 := lt_of_lt_of_eq t.isLt N_0

theorem q_blk (c : Dev nD) (t : Fin cfg0.N) (r : Fin 512) (d : Fin 128) :
    iblk m c 0 t (ix2 r d) = m ((c : Thread nD τ).loc main_arg0)
      (ix2 ⟨(t.val / 64 * 8 + t.val % 8) * 512 + r.val, by have := pt_lt t; omega⟩ ⟨t.val / 8 % 8 * 128 + d.val, by omega⟩) := by
  blk_ext! [iblk, V, idx0 t]

theorem k_blk (c : Dev nD) (t : Fin cfg0.N) (r : Fin 4096) (d : Fin 128) :
    iblk m c 1 t (ix2 r d) = m ((c : Thread nD τ).loc main_arg1)
      (ix2 ⟨t.val / 64 * 4096 + r.val, by have := pt_lt t; omega⟩ ⟨t.val / 8 % 8 * 128 + d.val, by omega⟩) := by
  blk_ext! [iblk, V, idx1 t]

theorem v_blk (c : Dev nD) (t : Fin cfg0.N) (r : Fin 4096) (d : Fin 128) :
    iblk m c 2 t (ix2 r d) = m ((c : Thread nD τ).loc main_arg2)
      (ix2 ⟨t.val / 64 * 4096 + r.val, by have := pt_lt t; omega⟩ ⟨2048 + t.val / 8 % 8 * 128 + d.val, by omega⟩) := by
  blk_ext! [iblk, V, idx2 t]

theorem ck_blk (c : Dev nD) (t : Fin cfg0.N) (r : Fin 256) (j : Fin 2) (d : Fin 64) :
    iblk m c 3 t (ix4 0 0 r ⟨j.val * 64 + d.val, by omega⟩) = m ((c : Thread nD τ).loc main_arg3)
      (ix6 ⟨t.val / 64, by have := pt_lt t; omega⟩ 0 r ⟨t.val / 8 % 8, by omega⟩ j d) := by
  blk_simp [iblk]
  entry_read
  pointwise
  blk_ext [idx3 t]

theorem cv_blk (c : Dev nD) (t : Fin cfg0.N) (r : Fin 256) (d : Fin 128) :
    iblk m c 4 t (ix4 0 0 r d) = m ((c : Thread nD τ).loc main_arg4)
      (ix5 ⟨t.val / 64, by have := pt_lt t; omega⟩ 0 r ⟨t.val / 8 % 8, by omega⟩ d) := by
  blk_simp [iblk]
  entry_read
  pointwise
  blk_ext [idx4 t]

theorem w_blk (c : Dev nD) (t : Fin cfg0.N) (r : Fin 4) (d : Fin 64) :
    iblk m c 5 t (ix2 r d) = m ((c : Thread nD τ).loc main_arg5) (ix2 r d) := by
  blk_ext! [iblk, V, idx5 t]

theorem g_blk (c : Dev nD) (t : Fin cfg0.N) (d : Fin 128) :
    iblk m c 6 t (ix2 0 d) = m ((c : Thread nD τ).loc main_arg6) (ix1 d) := by
  blk_simp [iblk]
  entry_read
  pointwise
  blk_ext [idx6 t]

/-- The batch, the head and the first token of point `t`. -/
abbrev bt (t : Fin cfg0.N) : Fin 8 := ⟨t.val / 64, by have := pt_lt t; omega⟩
abbrev ht (t : Fin cfg0.N) : Fin 8 := ⟨t.val / 8 % 8, by omega⟩
abbrev tok (t : Fin cfg0.N) (r : Fin 512) : Fin 32768 := ⟨(t.val / 64 * 8 + t.val % 8) * 512 + r.val, by have := pt_lt t; omega⟩

theorem key_at (c : Dev nD) (t : Fin cfg0.N) (k : Fin 4352) (j : Fin 2) (d : Fin 64) (d' : Fin 128) (hd : d'.val = j.val * 64 + d.val) :
    kAt m c t (ix2 k d') = key (m ((c : Thread nD τ).loc main_arg1)) (m ((c : Thread nD τ).loc main_arg3)) (bt t) (ht t) j k d := by
  have e : d' = ⟨j.val * 64 + d.val, by omega⟩ := Fin.ext hd
  rw [e]
  unfold kAt key
  rw [keys_apply]
  unfold rows
  by_cases hk : k.val < 4096
  · rw [dif_pos hk, dif_pos hk, k_blk]
    exact congrArg _ (congrArg (ix2 _) (Fin.ext (by dsimp only; omega)))
  · rw [dif_neg hk, dif_neg hk, ck_blk]

theorem value_at (c : Dev nD) (t : Fin cfg0.N) (k : Fin 4352) (e : Fin 128) :
    vAt m c t (ix2 k e) = value (m ((c : Thread nD τ).loc main_arg2)) (m ((c : Thread nD τ).loc main_arg4)) (bt t) (ht t) k e := by
  unfold vAt value
  rw [vals_apply]
  unfold rows
  by_cases hk : k.val < 4096
  · rw [dif_pos hk, dif_pos hk, v_blk]
  · rw [dif_neg hk, dif_neg hk, cv_blk]

theorem tok_batch (t : Fin cfg0.N) (r : Fin 512) : (tok t r).val / 4096 = t.val / 64 := by
  have := pt_lt t
  show ((t.val / 64 * 8 + t.val % 8) * 512 + r.val) / 4096 = _
  omega

theorem score0_at (c : Dev nD) (t : Fin cfg0.N) (r : Fin 512) :
    score0 (iblk m c 0 t) (kAt m c t) r = scores (m ((c : Thread nD τ).loc main_arg0)) (m ((c : Thread nD τ).loc main_arg1))
      (m ((c : Thread nD τ).loc main_arg3)) (tok t r) (ht t) 0 := by
  funext k
  unfold score0 scores
  refine Fin.sum_fin_congr fun d => ?_
  refine (congrArg₂ (fun a b : EReal => a * b) (q_blk m c t r _) (key_at m c t k 0 d _ (by simp))).trans ?_
  exact congrArg₂ (fun a b : EReal => a * b) (congrArg _ (congrArg (ix2 _) (Fin.ext (by simp))))
    (congrArg (fun b => key _ _ b (ht t) 0 k d) (Fin.ext (tok_batch t r).symm))

theorem score1_at (c : Dev nD) (t : Fin cfg0.N) (r : Fin 512) :
    score1 (iblk m c 0 t) (kAt m c t) r = scores (m ((c : Thread nD τ).loc main_arg0)) (m ((c : Thread nD τ).loc main_arg1))
      (m ((c : Thread nD τ).loc main_arg3)) (tok t r) (ht t) 1 := by
  funext k
  unfold score1 scores
  refine Fin.sum_fin_congr fun d => ?_
  refine (congrArg₂ (fun a b : EReal => a * b) (q_blk m c t r _) (key_at m c t k 1 d _ (by simp))).trans ?_
  exact congrArg₂ (fun a b : EReal => a * b) (congrArg _ (congrArg (ix2 _) (Fin.ext (by simp; omega))))
    (congrArg (fun b => key _ _ b (ht t) 1 k d) (Fin.ext (tok_batch t r).symm))

theorem mix_at (c : Dev nD) (t : Fin cfg0.N) : mix (iblk m c 5 t) = mix (m ((c : Thread nD τ).loc main_arg5)) := by
  unfold mix
  simp only [w_blk]

/-- The block at point `t`: a head's 512 tokens. -/
theorem o_blk (c : Dev nD) (t : Fin cfg0.N) (r : Fin 512) (e : Fin 128) :
    oAt m c t (ix2 r e) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (ix2 (tok t r) ⟨t.val / 8 % 8 * 128 + e.val, by omega⟩) := by
  unfold oAt out head
  rw [block_apply]
  have e1 : (t.val / 8 % 8 * 128 + e.val) / 128 = t.val / 8 % 8 := by omega
  have e2 : (t.val / 8 % 8 * 128 + e.val) % 128 = e.val := by omega
  have eb : ∀ hb, (⟨((t.val / 64 * 8 + t.val % 8) * 512 + r.val) / 4096, hb⟩ : Fin 8) = bt t := fun _ => Fin.ext (tok_batch t r)
  simp only [ix2_0, ix2_1, score0_at, score1_at, mix_at, value_at, g_blk, e1, e2, eb]

theorem final_out (c : Dev nD) : (dats m 0 c).arrAt 7 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  blk_simp
  rw [after0_7]
  refine (congrArg _ (ix2_eta y).symm).trans ((o_blk m c t (y 0) (y 1)).trans (congrArg _ ?_))
  blk_ext [idx7 t]

/-- The run with the result array named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩)
    (run_main m ρ)

end Cert.AttnIdeal.Value

end
-- ==== Proof.AttnV.Ref.lean ====
/-
  The attention's reference read at an index.
-/
module

public import proofs.«01_k».proof.Defs
public import proofs.«01_k».proof.Proof.AttnV.Array
public import proofs.«01_k».proof.Proof.AttnV.Consts
public import proofs.«01_k».proof.Proof.Gen.AttnRefIdeal.Run

@[expose] public section

noncomputable section

namespace Cert.Proof.Attn

open Idealize.ShloMosaic Idealize.ShloMosaic.TcCoe Idealize.SL.Sem
open Cert.AttnRefIdeal Cert.AttnRefIdeal.Gen
open Cert.AttnIdeal.Value (key value scores mix)
open scoped BigOperators

/-- The reference's scores of queries against keys, times the logarithm of two. -/
def refScores (q : FVec Ideal S8x4096x8x2x64 .f32) (k : FVec Ideal S8x4352x8x2x64 .f32) : FVec Ideal S8x8x2x4096x4352 .f32 :=
  (mulf (Host.dotGeneral dot_S8x4096x8x2x64_S8x4352x8x2x64_S8x8x2x4096x4352_4_4_1_1_023_023 none q k) (broadcastInDim S8x8x2x4096x4352 ![] bcast_S_S8x8x2x4096x4352 (Host.log (constant S_ .f32 0x40000000#32))))

/-- The largest score of each row. -/
def refMax (s : FVec Ideal S8x8x2x4096x4352 .f32) : FVec Ideal S8x8x2x4096 .f32 :=
  (maximumf (broadcastInDim S8x8x2x4096 ![] bcast_S_S8x8x2x4096 (constant S_ .f32 0xFF800000#32)) (Host.reduce FloatOps.maximumf s (constant S_ .f32 0xFF800000#32) reducesTo_S8x8x2x4096x4352_S8x8x2x4096_d4 h_S_))

/-- The exponentials of the scores less their row's largest. -/
def refExp (s : FVec Ideal S8x8x2x4096x4352 .f32) : FVec Ideal S8x8x2x4096x4352 .f32 :=
  (Host.exp (subf s (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (refMax s)))))

/-- Each row divided by its sum. -/
def refShare (x : FVec Ideal S8x8x2x4096x4352 .f32) : FVec Ideal S8x8x2x4096x4352 .f32 :=
  (Host.divf x (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (Host.reduceAdd x (constant S_ .f32 0x00000000#32) reducesTo_S8x8x2x4096x4352_S8x8x2x4096_d4 h_S_))))

/-- The first map less the second times the mixing weight. -/
def refDiff (p : FVec Ideal S8x8x2x4096x4352 .f32) (l : FVec Ideal S_ .f32) : FVec Ideal S8x8x4096x4352 .f32 :=
  (subf (shapeCast _ (extractStridedSlice S8x8x1x4096x4352 ![0, 0, 0, 0, 0] p slices_S8x8x2x4096x4352_S8x8x1x4096x4352_0_0_0_0_0) shapeCasts_S8x8x1x4096x4352_S8x8x4096x4352) (mulf (broadcastInDim S8x8x4096x4352 ![] bcast_S_S8x8x4096x4352 l) (shapeCast _ (extractStridedSlice S8x8x1x4096x4352 ![0, 0, 1, 0, 0] p slices_S8x8x2x4096x4352_S8x8x1x4096x4352_0_0_1_0_0) shapeCasts_S8x8x1x4096x4352_S8x8x4096x4352)))

/-- The weighted sums of the values, token by token. -/
def refSum (v : FVec Ideal S8x4352x8x128 .f32) (d : FVec Ideal S8x8x4096x4352 .f32) : FVec Ideal S8x4096x8x128 .f32 :=
  (transpose S8x4096x8x128 [0, 3, 1, 2] (Host.dotGeneral dot_S8x4352x8x128_S8x8x4096x4352_S8x8x128x4096_1_3_3_2_02_01 none v d) transposes_S8x8x128x4096_S8x4096x8x128_0_3_1_2)

/-- The normalisation of each head's lanes. -/
def refNorm (a : FVec Ideal S8x4096x8x128 .f32) (g : FVec Ideal S128 .f32) : FVec Ideal S32768x1024 .bf16 :=
  truncf .bf16 (shapeCast _ (mulf (mulf (mulf a (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf a a) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 g))) (broadcastInDim S8x4096x8x128 ![] bcast_S_S8x4096x8x128 (constant S_ .f32 0x3F4CCCCD#32))) shapeCasts_S8x4096x8x128_S32768x1024) bitsLt_bf16_f32

/-- The mixing weight. -/
def refMix (w : FVec Ideal S4x64 .f32) : FVec Ideal S_ .f32 :=
  (addf (subf (Host.exp (Host.reduceAdd (mulf (shapeCast _ (extractStridedSlice S1x64 ![0, 0] w slices_S4x64_S1x64_0_0) shapeCasts_S1x64_S64) (shapeCast _ (extractStridedSlice S1x64 ![1, 0] w slices_S4x64_S1x64_1_0) shapeCasts_S1x64_S64)) (constant S_ .f32 0x00000000#32) reducesTo_S64_S_d0 h_S_)) (Host.exp (Host.reduceAdd (mulf (shapeCast _ (extractStridedSlice S1x64 ![2, 0] w slices_S4x64_S1x64_2_0) shapeCasts_S1x64_S64) (shapeCast _ (extractStridedSlice S1x64 ![3, 0] w slices_S4x64_S1x64_3_0) shapeCasts_S1x64_S64)) (constant S_ .f32 0x00000000#32) reducesTo_S64_S_d0 h_S_))) (constant S_ .f32 0x3E4CCCCD#32))

/-- The queries. -/
def refQ (q : FVec Ideal S32768x1024 .bf16) : FVec Ideal S8x4096x8x2x64 .f32 :=
  (shapeCast _ (extf .f32 q bitsLt_bf16_f32) shapeCasts_S32768x1024_S8x4096x8x2x64)

/-- The keys: the sequence's, then the cache's. -/
def refK (k : FVec Ideal S32768x1024 .bf16) (c : FVec Ideal S8x2x256x8x2x64 .f32) : FVec Ideal S8x4352x8x2x64 .f32 :=
  (concatenate S8x4352x8x2x64 1 [⟨S8x4096x8x2x64, (shapeCast _ (extf .f32 k bitsLt_bf16_f32) shapeCasts_S32768x1024_S8x4096x8x2x64)⟩, ⟨S8x256x8x2x64, (shapeCast _ (extractStridedSlice S8x1x256x8x2x64 ![0, 0, 0, 0, 0, 0] c slices_S8x2x256x8x2x64_S8x1x256x8x2x64_0_0_0_0_0_0) shapeCasts_S8x1x256x8x2x64_S8x256x8x2x64)⟩] concatenates_S8x4096x8x2x64_S8x256x8x2x64_S8x4352x8x2x64_d1)

/-- The values: the sequence's, then the cache's. -/
def refV (k : FVec Ideal S32768x5120 .bf16) (c : FVec Ideal S8x2x256x8x128 .f32) : FVec Ideal S8x4352x8x128 .f32 :=
  (concatenate S8x4352x8x128 1 [⟨S8x4096x8x128, (shapeCast _ (extractStridedSlice S32768x1024 ![0, 2048] (extf .f32 k bitsLt_bf16_f32) slices_S32768x5120_S32768x1024_0_2048) shapeCasts_S32768x1024_S8x4096x8x128)⟩, ⟨S8x256x8x128, (shapeCast _ (extractStridedSlice S8x1x256x8x128 ![0, 0, 0, 0, 0] c slices_S8x2x256x8x128_S8x1x256x8x128_0_0_0_0_0) shapeCasts_S8x1x256x8x128_S8x256x8x128)⟩] concatenates_S8x4096x8x128_S8x256x8x128_S8x4352x8x128_d1)

theorem refQ_at (q : FVec Ideal S32768x1024 .bf16) (b : Fin 8) (t : Fin 4096) (h : Fin 8) (j : Fin 2) (d : Fin 64) :
    refQ q (ix5 b t h j d) = q (ix2 ⟨b.val * 4096 + t.val, by omega⟩ ⟨h.val * 128 + j.val * 64 + d.val, by omega⟩) := by
  pointwise [refQ]

theorem refK_at (k : FVec Ideal S32768x1024 .bf16) (c : FVec Ideal S8x2x256x8x2x64 .f32) (b : Fin 8) (t : Fin 4352) (h : Fin 8) (j : Fin 2) (d : Fin 64) :
    refK k c (ix5 b t h j d) = key k c b h j t d := by
  pointwise [refK, key]

theorem refV_at (k : FVec Ideal S32768x5120 .bf16) (c : FVec Ideal S8x2x256x8x128 .f32) (b : Fin 8) (t : Fin 4352) (h : Fin 8) (e : Fin 128) :
    refV k c (ix4 b t h e) = value k c b h t e := by
  pointwise [refV, value]
  simp only [Nat.add_assoc]

theorem refMix_at (w : FVec Ideal S4x64 .f32) (i : S_.Idx) : refMix w i = mix w := by
  pointwise [refMix, mix]

theorem refScores_at (q : FVec Ideal S8x4096x8x2x64 .f32) (k : FVec Ideal S8x4352x8x2x64 .f32) (b h : Fin 8) (j : Fin 2) (t : Fin 4096) (n : Fin 4352) :
    refScores q k (ix5 b h j t n) = (∑ d : Fin 64, q (ix5 b t h j d) * k (ix5 b n h j d)) * Ideal.log (Ideal.ofBits .f32 0x40000000#32) := by
  pointwise [refScores]

/-- A maximum taken from the least value on. -/
theorem max_least (x : FVec Ideal S8x8x2x4096 .f32) (i : S8x8x2x4096.Idx) :
    (maximumf (broadcastInDim S8x8x2x4096 ![] bcast_S_S8x8x2x4096 (constant S_ .f32 0xFF800000#32)) x) i = max (Ideal.ofBits .f32 0xFF800000#32) (x i) := rfl

/-- A maximum along the last of five axes, at sizes left open. -/
theorem reduce_rows {n0 n1 n2 n3 n4 : Nat} (s : FVec Ideal ⟨5, ![n0, n1, n2, n3, n4]⟩ .f32) (c : FVec Ideal S_ .f32)
    (r : (⟨5, ![n0, n1, n2, n3, n4]⟩ : Shape).ReducesTo [4] ⟨4, ![n0, n1, n2, n3]⟩) (hu : 0 < S_.numel)
    (b : Fin n0) (h : Fin n1) (j : Fin n2) (t : Fin n3) : Host.reduce FloatOps.maximumf s c r hu (ix4 b h j t)
      = Finset.univ.fold max (c (Shape.Idx.first hu)) fun n : Fin n4 => s (ix5 b h j t n) :=
  (Host.reduce_eq_fold FloatOps.maximumf s c r hu (ix4 b h j t)).trans (r.fold_fiber_r5_a4 _ _ _ _)

theorem fold_sup {κ : Type} [Fintype κ] (f : κ → EReal) : max ⊥ (Finset.univ.fold max ⊥ f) = Finset.univ.sup f :=
  max_eq_right bot_le

theorem refMax_at (s : FVec Ideal S8x8x2x4096x4352 .f32) (b h : Fin 8) (j : Fin 2) (t : Fin 4096) :
    refMax s (ix4 b h j t) = Finset.univ.sup fun n : Fin 4352 => s (ix5 b h j t n) := by
  unfold refMax
  rw [max_least, reduce_rows, ← fold_sup]
  have e : (constant S_ .f32 0xFF800000#32 : FVec Ideal S_ .f32) (Shape.Idx.first h_S_) = ⊥ := Cert.Proof.AttnRow.least
  rw [e, Cert.Proof.AttnRow.least]

theorem refExp_at (s : FVec Ideal S8x8x2x4096x4352 .f32) (b h : Fin 8) (j : Fin 2) (t : Fin 4096) (n : Fin 4352) :
    refExp s (ix5 b h j t n) = Ideal.exp (s (ix5 b h j t n) - refMax s (ix4 b h j t)) := by
  pointwise [refExp]

theorem refShare_at (x : FVec Ideal S8x8x2x4096x4352 .f32) (b h : Fin 8) (j : Fin 2) (t : Fin 4096) (n : Fin 4352) :
    refShare x (ix5 b h j t n) = Ideal.div (x (ix5 b h j t n)) (∑ n : Fin 4352, x (ix5 b h j t n)) := by
  pointwise [refShare]

theorem refDiff_at (p : FVec Ideal S8x8x2x4096x4352 .f32) (l : FVec Ideal S_ .f32) (x : EReal) (hl : ∀ i, l i = x) (b h : Fin 8) (t : Fin 4096) (n : Fin 4352) :
    refDiff p l (ix4 b h t n) = p (ix5 b h 0 t n) - x * p (ix5 b h 1 t n) := by
  have e : l = fun _ => x := funext hl
  rw [e]
  pointwise [refDiff]

theorem refSum_at (v : FVec Ideal S8x4352x8x128 .f32) (d : FVec Ideal S8x8x4096x4352 .f32) (b : Fin 8) (t : Fin 4096) (h : Fin 8) (e : Fin 128) :
    refSum v d (ix4 b t h e) = ∑ n : Fin 4352, v (ix4 b n h e) * d (ix4 b h t n) := by
  pointwise [refSum]

theorem refNorm_at (a : FVec Ideal S8x4096x8x128 .f32) (g : FVec Ideal S128 .f32) (r : Fin 32768) (l : Fin 1024) :
    refNorm a g (ix2 r l) = Cert.Proof.AttnRow.normal (Ideal.ofBits .f32 0x43000000#32) (Ideal.ofBits .f32 0x358637BD#32) (Ideal.ofBits .f32 0x3F4CCCCD#32)
      (fun e => g (ix1 e)) (fun e : Fin 128 => a (ix4 ⟨r.val / 4096, by omega⟩ ⟨r.val % 4096, by omega⟩ ⟨l.val / 128, by omega⟩ e)) ⟨l.val % 128, by omega⟩ := by
  pointwise [refNorm, Cert.Proof.AttnRow.normal]

/-- The reference's result. -/
def refAll (q k : FVec Ideal S32768x1024 .bf16) (p : FVec Ideal S32768x5120 .bf16) (ck : FVec Ideal S8x2x256x8x2x64 .f32)
    (cv : FVec Ideal S8x2x256x8x128 .f32) (w : FVec Ideal S4x64 .f32) (g : FVec Ideal S128 .f32) : FVec Ideal S32768x1024 .bf16 :=
  refNorm (refSum (refV p cv) (refDiff (refShare (refExp (refScores (refQ q) (refK k ck)))) (refMix w))) g

theorem res_eq (m : (ℓ : Loc nD τ sig) → Buf (Elt Ideal) ℓ) (c : Dev nD) :
    Cert.AttnRefIdeal.Value.res_main_v69 (F := Ideal) m c = refAll (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.AttnRefIdeal.Value.res_main_v69 refAll refNorm refSum refV refDiff refShare refExp refMax refScores refQ refK refMix
  rfl

/-- The reference's result at token `r`, lane `l`. -/
theorem ref_at (q k : FVec Ideal S32768x1024 .bf16) (p : FVec Ideal S32768x5120 .bf16) (ck : FVec Ideal S8x2x256x8x2x64 .f32)
    (cv : FVec Ideal S8x2x256x8x128 .f32) (w : FVec Ideal S4x64 .f32) (g : FVec Ideal S128 .f32) (r : Fin 32768) (l : Fin 1024) :
    refAll q k p ck cv w g (ix2 r l) = Cert.Proof.AttnRow.refRow (Ideal.ofBits .f32 0x43000000#32) (Ideal.ofBits .f32 0x358637BD#32)
      (Ideal.ofBits .f32 0x3F4CCCCD#32) (mix w) (Ideal.log (Ideal.ofBits .f32 0x40000000#32)) (fun e => g (ix1 e))
      (scores q k ck r ⟨l.val / 128, by omega⟩ 0) (scores q k ck r ⟨l.val / 128, by omega⟩ 1)
      (value p cv ⟨r.val / 4096, by omega⟩ ⟨l.val / 128, by omega⟩) ⟨l.val % 128, by omega⟩ := by
  unfold refAll Cert.Proof.AttnRow.refRow
  rw [refNorm_at]
  refine congrArg (fun o => Cert.Proof.AttnRow.normal _ _ _ _ o _) (funext fun e => ?_)
  rw [refSum_at]
  refine Fin.sum_fin_congr fun n => ?_
  rw [refDiff_at _ _ (mix w) (refMix_at w), refV_at]
  have er : ∀ hr, (⟨r.val / 4096 * 4096 + r.val % 4096, hr⟩ : Fin 32768) = r := fun _ => Fin.ext (by dsimp only; omega)
  simp only [refShare_at, refExp_at, refMax_at, refScores_at, refQ_at, refK_at, er, scores]

end Cert.Proof.Attn

end
-- ==== Proof.AttnV.Pre.lean ====
/-
  The precondition read: every value row and every mixing weight is a real number.
-/
module

public import proofs.«01_k».proof.Defs
public import proofs.«01_k».proof.Proof.AttnV.Array
public import proofs.«01_k».proof.Proof.AttnV.Consts
public import Idealize.ShloMosaic.Lib.ReduceAll

@[expose] public section

noncomputable section

namespace Cert.Pre_finite_values

open Idealize.ShloMosaic

/-- The shape relations of the precondition's operations. -/
instance facts : Facts where
  bitsLt_bf16_f32 := by decide
  slices_S32768x5120_S32768x1024_0_2048 := by decide
  bcast_S_S32768x1024 := by decide
  reducesTo_S32768x1024_S_d0_1 := by decide
  h_S_ := by decide
  bcast_S_S8x2x256x8x128 := by decide
  reducesTo_S8x2x256x8x128_S_d0_1_2_3_4 := by decide
  bcast_S_S4x64 := by decide
  reducesTo_S4x64_S_d0_1 := by decide

end Cert.Pre_finite_values

namespace Cert.Proof.AttnRow

open Idealize.ShloMosaic Cert.Pre_finite_values
open Cert.AttnIdeal.Value (value mix)
open scoped BigOperators

/-- A number whose magnitude is below infinity is real. -/
theorem real_of_lt {x : EReal} (h : Ideal.cmp .olt (max x (-x)) (Ideal.ofBits .f32 0x7F800000#32) = 1#1) : ∃ r : ℝ, x = (r : EReal) := by
  rw [infinite] at h
  induction x with
  | bot => simp [Ideal.cmp] at h
  | top => simp [Ideal.cmp] at h
  | coe r => exact ⟨r, rfl⟩

/-- The conjunction of two flags is set only when both are. -/
theorem both {a b : IVec S_ 1} {i : S_.Idx} (h : andi a b i = 1#1) : a i = 1#1 ∧ b i = 1#1 := by
  have : ∀ x y : BitVec 1, IntOp.andi x y = 1#1 → x = 1#1 ∧ y = 1#1 := by decide
  exact this _ _ h

/-- What the precondition says of the arrays it reads. -/
theorem reals (q k : FVec Ideal S32768x1024 .bf16) (p : FVec Ideal S32768x5120 .bf16) (ck : FVec Ideal S8x2x256x8x2x64 .f32)
    (cv : FVec Ideal S8x2x256x8x128 .f32) (w : FVec Ideal S4x64 .f32) (g : FVec Ideal S128 .f32)
    (h : fn (F := Ideal) q k p ck cv w g = fun _ => 1#1) :
    (∀ i, ∃ r : ℝ, extractStridedSlice S32768x1024 ![0, 2048] p Facts.slices_S32768x5120_S32768x1024_0_2048 i = (r : EReal))
      ∧ (∀ i, ∃ r : ℝ, cv i = (r : EReal)) ∧ ∀ i, ∃ r : ℝ, w i = (r : EReal) := by
  obtain ⟨h1, hw⟩ := both (congrFun h ix0)
  obtain ⟨hp, hv⟩ := both h1
  have : Subsingleton S_.Idx := ⟨fun a b => funext fun d => d.elim0⟩
  exact ⟨fun i => real_of_lt (Host.reduce_andi_all _ _ _ _ _ hp i), fun i => real_of_lt (Host.reduce_andi_all _ _ _ _ _ hv i),
    fun i => real_of_lt (Host.reduce_andi_all _ _ _ _ _ hw i)⟩

variable {q k : FVec Ideal S32768x1024 .bf16} {p : FVec Ideal S32768x5120 .bf16} {ck : FVec Ideal S8x2x256x8x2x64 .f32}
  {cv : FVec Ideal S8x2x256x8x128 .f32} {w : FVec Ideal S4x64 .f32} {g : FVec Ideal S128 .f32}

/-- The values are real. -/
theorem value_real (h : fn (F := Ideal) q k p ck cv w g = fun _ => 1#1) (b hd : Fin 8) (n : Fin 4352) (e : Fin 128) :
    ∃ r : ℝ, value p cv b hd n e = (r : EReal) := by
  obtain ⟨hp, hv, -⟩ := reals q k p ck cv w g h
  unfold value
  by_cases hn : n.val < 4096
  · rw [dif_pos hn]
    obtain ⟨r, hr⟩ := hp (ix2 ⟨b.val * 4096 + n.val, by omega⟩ ⟨hd.val * 128 + e.val, by omega⟩)
    refine ⟨r, Eq.trans (congrArg p ?_) hr⟩
    blk_ext
    · rfl
    · exact Nat.add_assoc _ _ _
  · rw [dif_neg hn]
    exact hv _

/-- The mixing weight is real. -/
theorem mix_real (h : fn (F := Ideal) q k p ck cv w g = fun _ => 1#1) : ∃ r : ℝ, mix w = (r : EReal) := by
  obtain ⟨-, -, hw⟩ := reals q k p ck cv w g h
  choose u hu using hw
  obtain ⟨f, hf⟩ := fifth_real
  unfold mix
  simp only [hu, hf, ← EReal.coe_mul, ← coe_sum]
  exact ⟨_, rfl⟩

end Cert.Proof.AttnRow

end
-- ==== Proof.AttnV.Claims.lean ====
/-
  The claims about the attention.
-/
module

public import proofs.«01_k».proof.Defs
public import proofs.«01_k».proof.Proof.AttnI.Frame
public import proofs.«01_k».proof.Proof.AttnB.Frame
public import proofs.«01_k».proof.Proof.Gen.AttnRefIdeal.Run
public import proofs.«01_k».proof.Proof.AttnV.Equation
public import proofs.«01_k».proof.Proof.AttnV.Consts
public import proofs.«01_k».proof.Proof.AttnV.Array
public import proofs.«01_k».proof.Proof.AttnV.Ref
public import proofs.«01_k».proof.Proof.AttnV.Pre
public import Idealize.ShloMosaic.Lib.Quiescent

@[expose] public section

noncomputable section

namespace Cert.Proof.Attn

open Idealize.ShloMosaic Idealize.ShloMosaic.TcCoe Idealize.SL.Sem

theorem frame_p : Cert.quiescent_Attn := fun m ρ _ => Cert.Attn.Gen.frame m ρ
theorem frame_pi : Cert.quiescent_AttnIdeal := fun m ρ _ => Cert.AttnIdeal.Gen.frame m ρ
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem frame_pi_pre : Cert.quiescent_AttnIdeal_pre_finite_values := fun m ρ _ => Cert.AttnIdeal.Gen.frame m ρ
theorem frame_ri_pre : Cert.quiescent_AttnRefIdeal_pre_finite_values := fun m ρ _ => frame_ri m ρ trivial

/-- No operation of the kernel was replaced by another. -/
theorem preserves : Cert.preserves_Attn_AttnIdeal := trivial

open Cert.AttnIdeal.Value (out) in
/-- Where the values and the mixing weights are finite, the kernel's result and the reference's are the same. -/
theorem out_eq {q k : FVec Ideal Cert.AttnRefIdeal.S32768x1024 .bf16} {p : FVec Ideal Cert.AttnRefIdeal.S32768x5120 .bf16}
    {ck : FVec Ideal Cert.AttnRefIdeal.S8x2x256x8x2x64 .f32} {cv : FVec Ideal Cert.AttnRefIdeal.S8x2x256x8x128 .f32}
    {w : FVec Ideal Cert.AttnRefIdeal.S4x64 .f32} {g : FVec Ideal Cert.AttnRefIdeal.S128 .f32}
    (h : Cert.Pre_finite_values.fn (F := Ideal) q k p ck cv w g = fun _ => 1#1) : refAll q k p ck cv w g = out q k p ck cv w g := by
  funext i
  obtain ⟨r, l, rfl⟩ : ∃ (r : Fin 32768) (l : Fin 1024), i = ix2 r l := ⟨i 0, i 1, (ix2_eta i).symm⟩
  rw [ref_at]
  unfold out Cert.AttnIdeal.Value.head
  obtain ⟨lam, hlam⟩ := AttnRow.mix_real h
  obtain ⟨eps, heps⟩ := AttnRow.eps_real
  choose v hv using AttnRow.value_real h ⟨r.val / 4096, by omega⟩ ⟨l.val / 128, by omega⟩
  have ev : Cert.AttnIdeal.Value.value p cv ⟨r.val / 4096, by omega⟩ ⟨l.val / 128, by omega⟩ = fun n a => ((v n a : ℝ) : EReal) :=
    funext fun n => funext fun a => hv n a
  simp only [ix2_0, ix2_1]
  rw [AttnRow.log_two, AttnRow.lanes, heps, hlam, ev]
  exact (AttnRow.row_eq 128 eps (by norm_num) _ lam _ _ _ v _).symm

/-- The kernel's result array and the reference's are the same function of the arguments. -/
theorem algebraic : Cert.algebraic_AttnIdeal_AttnRefIdeal_pre_finite_values := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩)
    (Cert.AttnRefIdeal.Value.run (F := Ideal) m' ρ')
  obtain ⟨h0, h1, h2, h3, h4, h5, h6⟩ := hagree c
  refine (res_eq m' c).trans ?_
  rw [h0, h1, h2, h3, h4, h5, h6]
  exact (out_eq (hpre c)).trans (Cert.AttnIdeal.Value.final_out m c).symm

end Cert.Proof.Attn

end
-- ==== Proof.FfnV.Block.lean ====
/-
  One grid point of the feed-forward kernel: what the carried block and the result block hold after it, as the body's
  own expressions over the input blocks, and those expressions read at an index as sums of products.
-/
module

public import proofs.«01_k».proof.Proof.Gen.FfnIdeal.Value
public import Idealize.ShloMosaic.Lib.Pipeline.ValueKit
public import Idealize.ShloMosaic.Lib.Pointwise
public import Idealize.ShloMosaic.Lib.Pipeline.ReadBack

@[expose] public section

noncomputable section

namespace Cert.FfnIdeal.Value

open Cert.FfnIdeal Cert.FfnIdeal.Gen Idealize.ShloMosaic Idealize.ShloMosaic.TcCoe Idealize.SL.Sem
open scoped BigOperators

/-- Nothing minus a value is its negation, at the infinities too. -/
theorem zero_sub_eq (x : EReal) : 0 - x = -x := by rw [sub_eq_add_neg, zero_add]

/-- The gate's product with its own logistic function. -/
def swish (g : EReal) : EReal := g * Ideal.div 1 (1 + Ideal.exp (-g))

/-- What a block of 512 hidden columns adds to the carried block at an index. -/
def part (h : Vec Ideal S512x2048 .bf16) (wg wu : Vec Ideal S2048x512 .bf16) (wd : Vec Ideal S512x2048 .bf16)
    (y : S512x2048.Idx) : EReal :=
  ∑ k : Fin 512, swish (∑ a : Fin 2048, h (ix2 (y 0) a) * wg (ix2 a k)) * (∑ a : Fin 2048, h (ix2 (y 0) a) * wu (ix2 a k))
    * wd (ix2 k (y 1))

theorem pay1_apply (y : S512x2048.Idx) : k0_pay1 (F := Ideal) y = 0 := by
  pointwise [k0_pay1]

theorem pay2_apply (h : Vec Ideal S512x2048 .bf16) (wg wu : Vec Ideal S2048x512 .bf16) (acc : Vec Ideal S512x2048 .f32)
    (wd : Vec Ideal S512x2048 .bf16) (y : S512x2048.Idx) :
    k0_pay2 (F := Ideal) h wg wu acc wd y = acc y + part h wg wu wd y := by
  pointwise [k0_pay2, part, swish]
  simp only [zero_sub_eq]

theorem pay3_apply (x : Vec Ideal S512x2048 .f32) (g : Vec Ideal S1x1x2048 .f32) (acc : Vec Ideal S512x2048 .f32) (y : S512x2048.Idx) :
    k0_pay3 (F := Ideal) x g acc y = x y + g (ix3 0 0 (y 1)) * acc y := by
  pointwise [k0_pay3]

variable (m : (ℓ : Loc nD τ sig) → Buf (Elt Ideal) ℓ)

theorem carried_A (c : Dev nD) (t : Fin cfg0.N) (h : t.val % 11 = 0) :
    (outsAt0 m c t.val t.isLt).2 = k0_pay2 (F := Ideal) (iblk m c 0 t) (iblk m c 2 t) (iblk m c 3 t) (k0_pay1 (F := Ideal)) (iblk m c 4 t) := by
  rw [outsAt0_A m c t h (by omega)]
  frame_out

theorem carried_B (c : Dev nD) (t : Fin cfg0.N) (h : ¬t.val % 11 = 0) :
    (outsAt0 m c t.val t.isLt).2 = k0_pay2 (F := Ideal) (iblk m c 0 t) (iblk m c 2 t) (iblk m c 3 t)
      (outsAt0 m c (t.val - 1) (Nat.lt_of_le_of_lt (Nat.sub_le _ _) t.isLt)).2 (iblk m c 4 t) := by
  by_cases h1 : t.val % 11 = 10
  · rw [outsAt0_C m c t h h1]
    frame_out
    rw [read_unread_whole]
  · rw [outsAt0_B m c t h h1]
    frame_out
    rw [read_unread_whole]

theorem written (c : Dev nD) (t : Fin cfg0.N) (h : t.val % 11 = 10) :
    (outsAt0 m c t.val t.isLt).1 = k0_pay3 (F := Ideal) (iblk m c 1 t) (iblk m c 5 t) (outsAt0 m c t.val t.isLt).2 := by
  rw [carried_B m c t (by omega), outsAt0_C m c t (by omega) h]
  frame_out
  rw [read_unread_whole]

end Cert.FfnIdeal.Value

end
-- ==== Proof.FfnV.Array.lean ====
/-
  The feed-forward kernel's result array: the eleven points of a row block add up, so an element is its old value plus
  the gate row's entry times a sum over all 5632 hidden columns.
-/
module

public import proofs.«01_k».proof.Proof.FfnV.Block

@[expose] public section

noncomputable section

namespace Cert.FfnIdeal.Value

open Cert.FfnIdeal Cert.FfnIdeal.Gen Idealize.ShloMosaic Idealize.ShloMosaic.TcCoe Idealize.SL.Sem
open scoped BigOperators

/-- The layer's second half at token `i 0` and channel `i 1`: the residual plus the modulation's sixth part times the
    projected product of the gated and the plain hidden columns. -/
def ffn (h : Vec Ideal S32768x2048 .bf16) (x : Vec Ideal S32768x2048 .f32) (wg wu : Vec Ideal S2048x5632 .f32)
    (wd : Vec Ideal S5632x2048 .f32) (md : Vec Ideal S16x12288 .f32) (i : S32768x2048.Idx) : EReal :=
  have hi : (i 0).val < 32768 := (i 0).isLt
  have hj : (i 1).val < 2048 := (i 1).isLt
  x i + md (ix2 ⟨1 + (i 0).val / 4096, by omega⟩ ⟨10240 + (i 1).val, by omega⟩)
    * ∑ l : Fin 5632, swish (∑ a : Fin 2048, h (ix2 (i 0) a) * wg (ix2 a l)) * (∑ a : Fin 2048, h (ix2 (i 0) a) * wu (ix2 a l))
        * wd (ix2 l (i 1))

theorem idx0 : ∀ t : Fin cfg0.N, win0_0.index t = ![t.val / 11, 0] := (by decide +kernel : ∀ t : Fin grid0.N, _)
theorem idx1 : ∀ t : Fin cfg0.N, win0_1.index t = ![t.val / 11, 0] := (by decide +kernel : ∀ t : Fin grid0.N, _)
theorem idx2 : ∀ t : Fin cfg0.N, win0_2.index t = ![0, t.val % 11] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![t.val % 11, 0] := (by decide +kernel : ∀ t : Fin grid0.N, _)
theorem idx5 : ∀ t : Fin cfg0.N, win0_5.index t = ![6 * (1 + t.val / 88) + 5, 0, 0] := (by decide +kernel : ∀ t : Fin grid0.N, _)
theorem idx6 : ∀ t : Fin cfg0.N, win0_6.index t = ![t.val / 11, 0] := (by decide +kernel : ∀ t : Fin grid0.N, _)

variable (m : (ℓ : Loc nD τ sig) → Buf (Elt Ideal) ℓ)

/-- What the carried block holds when a row block's last point is done. -/
theorem carried_eq (c : Dev nD) (t : Fin cfg0.N) (hr : t.val % 11 = 10) (y : S512x2048.Idx) :
    (outsAt0 m c t.val t.isLt).2 y = ∑ s : Fin 11,
      (fun (p : Fin cfg0.N) => part (iblk m c 0 p) (iblk m c 2 p) (iblk m c 3 p) (iblk m c 4 p) y)
        ⟨11 * (t.val / 11) + s.val, Pipeline.run_point_lt_of_flush t hr s⟩ := by
  rw [Pipeline.eq_sum_fin_of_reset_step_apply_of_flush (fun n h => (outsAt0 m c n h).2) 11 (fun _ => 0)
    (fun p y => part (iblk m c 0 p) (iblk m c 2 p) (iblk m c 3 p) (iblk m c 4 p) y)
    (fun t h i => by rw [carried_A m c t h, pay2_apply, pay1_apply])
    (fun t h i => by rw [carried_B m c t h, pay2_apply]) t hr y, zero_add]

/-- The gate row's block: row `1 + t / 88` of the modulation (a batch's 4096 tokens are 88 points), its sixth part. -/
theorem gate_blk (c : Dev nD) (t : Fin cfg0.N) (j : Fin 2048) :
    iblk m c 5 t (ix3 0 0 j) = m ((c : Thread nD τ).loc main_arg5)
      (ix2 ⟨1 + t.val / 88, by have h : t.val < 704 := lt_of_lt_of_eq t.isLt N_0; omega⟩ ⟨10240 + j.val, by omega⟩) := by
  blk_simp [iblk]
  entry_read
  pointwise
  blk_ext [idx5 t]

theorem final (c : Dev nD) : (dats m 0 c).arrAt 6 cfg0.N
    = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have hr : t.val % 11 = 10 := (flush0_6 t).mp hf
  blk_simp
  rw [after0_6, written m c t hr, pay3_apply, carried_eq m c t hr]
  unfold ffn
  refine congrArg₂ (· + ·) ?_ (congrArg₂ (· * ·) ?_ ?_)
  · blk_ext! [iblk, V, idx1 t, idx6 t]
  · rw [gate_blk m c t (y 1)]
    blk_ext [idx6 t]
  · refine Fin.sum_mul_add_congr fun s k hl => ?_
    dsimp only [part, swish]
    blk_point [iblk, V, idx0 ⟨_, Pipeline.run_point_lt_of_flush t hr s⟩, idx2 ⟨_, Pipeline.run_point_lt_of_flush t hr s⟩,
      idx3 ⟨_, Pipeline.run_point_lt_of_flush t hr s⟩, idx4 ⟨_, Pipeline.run_point_lt_of_flush t hr s⟩, idx6 t]

end Cert.FfnIdeal.Value

end
-- ==== Proof.FfnV.Claims.lean ====
/-
  The feed-forward reference read at an index, and the two claims about the feed-forward kernel's values.
-/
module

public import proofs.«01_k».proof.Defs
public import proofs.«01_k».proof.Proof.FfnV.Array
public import proofs.«01_k».proof.Proof.Gen.Ffn.Frame
public import proofs.«01_k».proof.Proof.Gen.FfnRefIdeal.Run
public import Idealize.ShloMosaic.Lib.Quiescent

@[expose] public section

noncomputable section

namespace Cert.Proof.Ffn

open Idealize.ShloMosaic Idealize.ShloMosaic.TcCoe Idealize.SL.Sem
open Cert.FfnRefIdeal Cert.FfnRefIdeal.Gen
open scoped BigOperators

/-- The reference's result is the layer's second half, element by element. -/
theorem ref_eq (h : FVec Ideal S32768x2048 .bf16) (x : FVec Ideal S32768x2048 .f32) (wg wu : FVec Ideal S2048x5632 .f32)
    (wd : FVec Ideal S5632x2048 .f32) (md : FVec Ideal S16x12288 .f32) :
    (shapeCast S32768x2048 (addf (shapeCast S8x4096x2048 x shapeCasts_S32768x2048_S8x4096x2048) (mulf (broadcastInDim S8x4096x2048 ![0, 1, 2] bcast_S8x1x2048_S8x4096x2048_0_1_2 (broadcastInDim S8x1x2048 ![0, 2] bcast_S8x2048_S8x1x2048_0_2 (extractStridedSlice S8x2048 ![1, 10240] md slices_S16x12288_S8x2048_1_10240))) (Host.dotGeneral dot_S8x4096x5632_S5632x2048_S8x4096x2048_2_0_01_1_n_n none (mulf (mulf (Host.dotGeneral dot_S8x4096x2048_S2048x5632_S8x4096x5632_2_0_01_1_n_n none (shapeCast _ (extf .f32 h bitsLt_bf16_f32) shapeCasts_S32768x2048_S8x4096x2048) wg) (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (Host.dotGeneral dot_S8x4096x2048_S2048x5632_S8x4096x5632_2_0_01_1_n_n none (shapeCast _ (extf .f32 h bitsLt_bf16_f32) shapeCasts_S32768x2048_S8x4096x2048) wg)))))) (Host.dotGeneral dot_S8x4096x2048_S2048x5632_S8x4096x5632_2_0_01_1_n_n none (shapeCast _ (extf .f32 h bitsLt_bf16_f32) shapeCasts_S32768x2048_S8x4096x2048) wu)) wd))) shapeCasts_S8x4096x2048_S32768x2048 : FVec Ideal S32768x2048 .f32) = Cert.FfnIdeal.Value.ffn h x wg wu wd md := by
  funext i
  pointwise [Cert.FfnIdeal.Value.ffn, Cert.FfnIdeal.Value.swish]

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- No operation of the kernel was replaced by another. -/
theorem preserves : Cert.preserves_Ffn_FfnIdeal := trivial

/-- The kernel's result array and the reference's result are one function of the arguments. -/
theorem algebraic : Cert.algebraic_FfnIdeal_FfnRefIdeal := by
  intro m ρ m' ρ' _ hagree
  refine ⟨fun c => (Cert.FfnIdeal.Gen.dats m 0 c).arrAt 6 Cert.FfnIdeal.cfg0.N, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4, h5⟩ := hagree c
  rw [h0, h1, h2, h3, h4, h5]
  exact (ref_eq _ _ _ _ _ _).trans (Cert.FfnIdeal.Value.final m c).symm

end Cert.Proof.Ffn

end
-- ==== Proof.InProjV.Block.lean ====
/-
  One grid point of the input projection: the normalised and modulated rows it carries, and the product it writes.
-/
module

public import proofs.«01_k».proof.Proof.Gen.InProjIdeal.Value
public import Idealize.ShloMosaic.Lib.Pipeline.ValueKit
public import Idealize.ShloMosaic.Lib.Pointwise
public import Idealize.ShloMosaic.Lib.Pipeline.ReadBack

@[expose] public section

noncomputable section

namespace Cert.InProjIdeal.Value

open Cert.InProjIdeal Cert.InProjIdeal.Gen Idealize.ShloMosaic Idealize.ShloMosaic.TcCoe Idealize.SL.Sem
open scoped BigOperators

/-- A row's entry divided by the row's root mean square, scaled by a gain, then by one plus a scale and shifted: `v` the
    entry, `s` the row's sum of squares. -/
def modulated (v s g scale shift : EReal) : EReal :=
  v * Ideal.rsqrt (Ideal.div s (Ideal.ofBits .f32 0x45000000#32) + Ideal.ofBits .f32 0x358637BD#32) * g * (1 + scale) + shift

theorem pay1_apply (x : Vec Ideal S1024x2048 .f32) (g : Vec Ideal S1x2048 .f32) (sc sh : Vec Ideal S1x1x2048 .f32)
    (y : S1024x2048.Idx) :
    k0_pay1 (F := Ideal) x g sc sh y = modulated (x y) (∑ k : Fin 2048, x (ix2 (y 0) k) * x (ix2 (y 0) k)) (g (ix2 0 (y 1)))
      (sc (ix3 0 0 (y 1))) (sh (ix3 0 0 (y 1))) := by
  pointwise [k0_pay1, modulated]

theorem pay2_apply (h : Vec Ideal S1024x2048 .bf16) (w : Vec Ideal S2048x1280 .bf16) (y : S1024x1280.Idx) :
    k0_pay2 (F := Ideal) h w y = ∑ a : Fin 2048, h (ix2 (y 0) a) * w (ix2 a (y 1)) := by
  pointwise [k0_pay2]

variable (m : (ℓ : Loc nD τ sig) → Buf (Elt Ideal) ℓ)

theorem carried_A (c : Dev nD) (t : Fin cfg0.N) (h : t.val % 4 = 0) :
    (outsAt0 m c t.val t.isLt).2 = k0_pay1 (F := Ideal) (iblk m c 0 t) (iblk m c 1 t) (iblk m c 2 t) (iblk m c 3 t) := by
  rw [outsAt0_A m c t h]
  frame_out

theorem carried_B (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  rfl

theorem written (c : Dev nD) (t : Fin cfg0.N) :
    (outsAt0 m c t.val t.isLt).1 = k0_pay2 (F := Ideal) (outsAt0 m c t.val t.isLt).2 (iblk m c 4 t) := by
  by_cases h : t.val % 4 = 0
  · rw [carried_A m c t h, outsAt0_A m c t h]
    frame_out
  · rw [carried_B m c t h, outsAt0_B m c t h]
    frame_out
    rw [read_unread_whole]

end Cert.InProjIdeal.Value

end
-- ==== Proof.InProjV.Array.lean ====
/-
  The input projection's result array: each token's normalised and modulated row times the weight.
-/
module

public import proofs.«01_k».proof.Proof.InProjV.Block

@[expose] public section

noncomputable section

namespace Cert.InProjIdeal.Value

open Cert.InProjIdeal Cert.InProjIdeal.Gen Idealize.ShloMosaic Idealize.ShloMosaic.TcCoe Idealize.SL.Sem
open scoped BigOperators

/-- Channel `a` of token `r` of batch `b` after the normalisation and the modulation. -/
def hrow (x : Vec Ideal S8x4096x2048 .f32) (g : Vec Ideal S2048 .f32) (md : Vec Ideal S16x12288 .f32) (b : Fin 8) (r : Fin 4096)
    (a : Fin 2048) : EReal :=
  modulated (x (ix3 b r a)) (∑ k : Fin 2048, x (ix3 b r k) * x (ix3 b r k)) (g (ix1 a))
    (md (ix2 ⟨1 + b.val, by omega⟩ ⟨2048 + a.val, by omega⟩)) (md (ix2 ⟨1 + b.val, by omega⟩ ⟨a.val, by omega⟩))

/-- The projected row's entry `i 1` of token `i 0`. -/
def proj (x : Vec Ideal S8x4096x2048 .f32) (g : Vec Ideal S2048 .f32) (md : Vec Ideal S16x12288 .f32) (w : Vec Ideal S2048x5120 .f32)
    (i : S32768x5120.Idx) : EReal :=
  have hi : (i 0).val < 32768 := (i 0).isLt
  ∑ a : Fin 2048, hrow x g md ⟨(i 0).val / 4096, by omega⟩ ⟨(i 0).val % 4096, by omega⟩ a * w (ix2 a (i 1))

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![6 * (1 + t.val / 16) + 1, 0, 0] := (by decide +kernel : ∀ t : Fin grid0.N, _)
theorem idx3 : ∀ t : Fin cfg0.N, win0_3.index t = ![6 * (1 + t.val / 16), 0, 0] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val / 4, t.val % 4] := (by decide +kernel : ∀ t : Fin grid0.N, _)

variable (m : (ℓ : Loc nD τ sig) → Buf (Elt Ideal) ℓ)

theorem pt_lt (t : Fin cfg0.N) : t.val < 128 := lt_of_lt_of_eq t.isLt N_0

theorem x_blk (c : Dev nD) (t : Fin cfg0.N) (r : Fin 1024) (a : Fin 2048) :
    iblk m c 0 t (ix2 r a) = m ((c : Thread nD τ).loc main_arg0)
      (ix3 ⟨t.val / 16, by have := pt_lt t; omega⟩ ⟨t.val / 4 % 4 * 1024 + r.val, by omega⟩ a) := by
  blk_simp [iblk]
  entry_read
  pointwise
  blk_ext [idx0 t]

theorem g_blk (c : Dev nD) (t : Fin cfg0.N) (a : Fin 2048) :
    iblk m c 1 t (ix2 0 a) = m ((c : Thread nD τ).loc main_arg1) (ix1 a) := by
  blk_simp [iblk]
  entry_read
  pointwise
  blk_ext [idx1 t]

theorem scale_blk (c : Dev nD) (t : Fin cfg0.N) (a : Fin 2048) :
    iblk m c 2 t (ix3 0 0 a) = m ((c : Thread nD τ).loc main_arg2)
      (ix2 ⟨1 + t.val / 16, by have := pt_lt t; omega⟩ ⟨2048 + a.val, by omega⟩) := by
  blk_simp [iblk]
  entry_read
  pointwise
  blk_ext [idx2 t]

theorem shift_blk (c : Dev nD) (t : Fin cfg0.N) (a : Fin 2048) :
    iblk m c 3 t (ix3 0 0 a) = m ((c : Thread nD τ).loc main_arg2)
      (ix2 ⟨1 + t.val / 16, by have := pt_lt t; omega⟩ ⟨a.val, by omega⟩) := by
  blk_simp [iblk]
  entry_read
  pointwise
  blk_ext [idx3 t]

/-- The carried rows after point `t` are those of the row block `t / 4`. -/
theorem carried_eq (c : Dev nD) : ∀ (n : ℕ) (hn : n < cfg0.N) (r : Fin 1024) (a : Fin 2048),
    (outsAt0 m c n hn).2 (ix2 r a) = hrow (m ((c : Thread nD τ).loc main_arg0)) (m ((c : Thread nD τ).loc main_arg1))
      (m ((c : Thread nD τ).loc main_arg2)) ⟨n / 16, by have := pt_lt ⟨n, hn⟩; dsimp only at this; omega⟩
      ⟨n / 4 % 4 * 1024 + r.val, by omega⟩ a := by
  intro n
  induction n with
  | zero =>
    intro hn r a
    rw [carried_A m c ⟨0, hn⟩ rfl, pay1_apply]
    simp only [hrow, x_blk, g_blk, scale_blk, shift_blk, ix2_0, ix2_1]
  | succ n ih =>
    intro hn r a
    by_cases h : (n + 1) % 4 = 0
    · rw [carried_A m c ⟨n + 1, hn⟩ h, pay1_apply]
      simp only [hrow, x_blk, g_blk, scale_blk, shift_blk, ix2_0, ix2_1]
    · rw [carried_B m c ⟨n + 1, hn⟩ h]
      have e16 : (n + 1) / 16 = n / 16 := by omega
      have e4 : (n + 1) / 4 = n / 4 := by omega
      simp only [e16, e4]
      exact ih (Nat.lt_of_succ_lt hn) r a

theorem final (c : Dev nD) : (dats m 0 c).arrAt 5 cfg0.N
    = proj (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5, written m c t, pay2_apply]
  unfold proj
  refine Fin.sum_fin_congr fun a => congrArg₂ (· * ·) ?_ ?_
  · refine (carried_eq m c t.val t.isLt (y 0) a).trans ?_
    have h0 : (y 0).val < 1024 := (y 0).isLt
    refine congrArg₂ (fun b r => hrow _ _ _ b r a) (Fin.ext ?_) (Fin.ext ?_)
    · blk_simp [idx5 t]
      dsimp only
      omega
    · blk_simp [idx5 t]
      dsimp only
      omega
  · blk_ext! [iblk, V, idx4 t, idx5 t]

end Cert.InProjIdeal.Value

end
-- ==== Proof.InProjV.Claims.lean ====
/-
  The input projection reference read at an index, and the two claims about the input projection kernel's values.
-/
module

public import proofs.«01_k».proof.Defs
public import proofs.«01_k».proof.Proof.InProjV.Array
public import proofs.«01_k».proof.Proof.Gen.InProj.Frame
public import proofs.«01_k».proof.Proof.Gen.InProjRefIdeal.Run
public import Idealize.ShloMosaic.Lib.Quiescent

@[expose] public section

noncomputable section

namespace Cert.Proof.InProj

open Idealize.ShloMosaic Idealize.ShloMosaic.TcCoe Idealize.SL.Sem
open Cert.InProjRefIdeal Cert.InProjRefIdeal.Gen
open scoped BigOperators

/-- The reference's result is the projection of the modulated rows, element by element. -/
theorem ref_eq (x : FVec Ideal S8x4096x2048 .f32) (g : FVec Ideal S2048 .f32) (md : FVec Ideal S16x12288 .f32)
    (w : FVec Ideal S2048x5120 .f32) :
    (truncf .bf16 (shapeCast S32768x5120 (Host.dotGeneral dot_S8x4096x2048_S2048x5120_S8x4096x5120_2_0_01_1_n_n none (addf (mulf (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 (extractStridedSlice S8x12288 ![1, 0] md slices_S16x12288_S8x12288_1_0)) slices_S8x1x12288_S8x1x2048_0_0_2048)))) (broadcastInDim S8x4096x2048 ![0, 1, 2] bcast_S8x1x2048_S8x4096x2048_0_1_2 (extractStridedSlice S8x1x2048 ![0, 0, 0] (broadcastInDim S8x1x12288 ![0, 2] bcast_S8x12288_S8x1x12288_0_2 (extractStridedSlice S8x12288 ![1, 0] md slices_S16x12288_S8x12288_1_0)) slices_S8x1x12288_S8x1x2048_0_0_0))) w) shapeCasts_S8x4096x5120_S32768x5120) bitsLt_bf16_f32 : FVec Ideal S32768x5120 .bf16) = Cert.InProjIdeal.Value.proj x g md w := by
  funext i
  pointwise [Cert.InProjIdeal.Value.proj, Cert.InProjIdeal.Value.hrow, Cert.InProjIdeal.Value.modulated]

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- No operation of the kernel was replaced by another. -/
theorem preserves : Cert.preserves_InProj_InProjIdeal := trivial

/-- The kernel's result array and the reference's result are one function of the arguments. -/
theorem algebraic : Cert.algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun _ h c => ⟨(h c).1.trans ?_, (h c).2⟩)
    (Cert.InProjRefIdeal.Value.run (F := Ideal) m' ρ')
  obtain ⟨h0, h1, h2, h3⟩ := hagree c
  rw [h0, h1, h2, h3]
  exact (ref_eq _ _ _ _).trans (Cert.InProjIdeal.Value.final m c).symm

end Cert.Proof.InProj

end
-- ==== Proof.OutProjV.Block.lean ====
/-
  One grid point of the output projection: the two blocks it writes, element by element.
-/
module

public import proofs.«01_k».proof.Proof.Gen.OutProjIdeal.Value
public import Idealize.ShloMosaic.Lib.Pipeline.ValueKit
public import Idealize.ShloMosaic.Lib.Pointwise
public import Idealize.ShloMosaic.Lib.Pipeline.ReadBack

@[expose] public section

noncomputable section

namespace Cert.OutProjIdeal.Value

open Cert.OutProjIdeal Cert.OutProjIdeal.Gen Idealize.ShloMosaic Idealize.ShloMosaic.TcCoe Idealize.SL.Sem
open scoped BigOperators

/-- A row's entry divided by the row's root mean square, scaled by a gain, then by one plus a scale and shifted: `v` the
    entry, `s` the row's sum of squares. -/
def modulated (v s g scale shift : EReal) : EReal :=
  v * Ideal.rsqrt (Ideal.div s (Ideal.ofBits .f32 0x45000000#32) + Ideal.ofBits .f32 0x358637BD#32) * g * (1 + scale) + shift

theorem pay2_apply (p : Vec Ideal S512x1024 .bf16) (wa : Vec Ideal S1024x2048 .bf16) (q : Vec Ideal S512x512 .f32)
    (wh : Vec Ideal S512x2048 .bf16) (r : Vec Ideal S512x512 .bf16) (wp : Vec Ideal S512x2048 .bf16) (x : Vec Ideal S512x2048 .f32)
    (gt : Vec Ideal S1x1x2048 .f32) (y : S512x2048.Idx) :
    k0_pay2 (F := Ideal) p wa q wh r wp x gt y = x y + gt (ix3 0 0 (y 1)) *
      (((∑ k : Fin 1024, p (ix2 (y 0) k) * wa (ix2 k (y 1))) + ∑ k : Fin 512, q (ix2 (y 0) k) * wh (ix2 k (y 1)))
        + ∑ k : Fin 512, r (ix2 (y 0) k) * wp (ix2 k (y 1))) := by
  pointwise [k0_pay2]

theorem pay13_apply (p : Vec Ideal S512x1024 .bf16) (wa : Vec Ideal S1024x2048 .bf16) (q : Vec Ideal S512x512 .f32)
    (wh : Vec Ideal S512x2048 .bf16) (r : Vec Ideal S512x512 .bf16) (wp : Vec Ideal S512x2048 .bf16) (x : Vec Ideal S512x2048 .f32)
    (gt : Vec Ideal S1x1x2048 .f32) (g : Vec Ideal S1x2048 .f32) (sc sh : Vec Ideal S1x1x2048 .f32) (y : S512x2048.Idx) :
    k0_pay1 (F := Ideal) (k0_pay3 p wa q wh r wp x gt) g sc sh y = modulated (k0_pay2 (F := Ideal) p wa q wh r wp x gt y)
      (∑ k : Fin 2048, k0_pay2 (F := Ideal) p wa q wh r wp x gt (ix2 (y 0) k) * k0_pay2 (F := Ideal) p wa q wh r wp x gt (ix2 (y 0) k))
      (g (ix2 0 (y 1))) (sc (ix3 0 0 (y 1))) (sh (ix3 0 0 (y 1))) := by
  unfold k0_pay1 k0_pay3
  generalize k0_pay2 (F := Ideal) p wa q wh r wp x gt = v
  pointwise [modulated]

theorem out_stream (x0 : Vec Ideal S512x1024 .bf16) (x1 : Vec Ideal S512x512 .f32) (x2 : Vec Ideal S512x512 .bf16)
    (x3 : Vec Ideal S512x2048 .f32) (x4 : Vec Ideal S1024x2048 .bf16) (x5 x6 : Vec Ideal S512x2048 .bf16)
    (x7 : Vec Ideal S1x1x2048 .f32) (x8 : Vec Ideal S1x2048 .f32) (x9 x10 : Vec Ideal S1x1x2048 .f32) :
    out0_11 x0 x1 x2 x3 x4 x5 x6 x7 x8 x9 x10 = k0_pay2 (F := Ideal) x0 x4 x1 x5 x2 x6 x3 x7 := by
  frame_out

theorem out_normed (x0 : Vec Ideal S512x1024 .bf16) (x1 : Vec Ideal S512x512 .f32) (x2 : Vec Ideal S512x512 .bf16)
    (x3 : Vec Ideal S512x2048 .f32) (x4 : Vec Ideal S1024x2048 .bf16) (x5 x6 : Vec Ideal S512x2048 .bf16)
    (x7 : Vec Ideal S1x1x2048 .f32) (x8 : Vec Ideal S1x2048 .f32) (x9 x10 : Vec Ideal S1x1x2048 .f32) :
    out0_12 x0 x1 x2 x3 x4 x5 x6 x7 x8 x9 x10 = k0_pay1 (F := Ideal) (k0_pay3 x0 x4 x1 x5 x2 x6 x3 x7) x8 x9 x10 := by
  frame_out

end Cert.OutProjIdeal.Value

end
-- ==== Proof.OutProjV.Array.lean ====
/-
  The output projection's two result arrays: the residual stream after the mixing, and its normalised and modulated rows.
-/
module

public import proofs.«01_k».proof.Proof.OutProjV.Block

@[expose] public section

noncomputable section

namespace Cert.OutProjIdeal.Value

open Cert.OutProjIdeal Cert.OutProjIdeal.Gen Idealize.ShloMosaic Idealize.ShloMosaic.TcCoe Idealize.SL.Sem
open scoped BigOperators

/-- Channel `j` of token `r` after the weight: the three mixers' outputs side by side times its rows. -/
def mixed (p : Vec Ideal S32768x1024 .bf16) (q : Vec Ideal S32768x512 .f32) (o : Vec Ideal S32768x512 .bf16)
    (w : Vec Ideal S2048x2048 .f32) (r : Fin 32768) (j : Fin 2048) : EReal :=
  ((∑ k : Fin 1024, p (ix2 r k) * w (ix2 ⟨k.val, by omega⟩ j)) + ∑ k : Fin 512, q (ix2 r k) * w (ix2 ⟨1024 + k.val, by omega⟩ j))
    + ∑ k : Fin 512, o (ix2 r k) * w (ix2 ⟨1536 + k.val, by omega⟩ j)

/-- The residual stream after the mixing: token `i 0`, channel `i 1`. -/
def stream (p : Vec Ideal S32768x1024 .bf16) (q : Vec Ideal S32768x512 .f32) (o : Vec Ideal S32768x512 .bf16)
    (x : Vec Ideal S8x4096x2048 .f32) (w : Vec Ideal S2048x2048 .f32) (md : Vec Ideal S16x12288 .f32) (i : S32768x2048.Idx) : EReal :=
  have hi : (i 0).val < 32768 := (i 0).isLt
  have hj : (i 1).val < 2048 := (i 1).isLt
  x (ix3 ⟨(i 0).val / 4096, by omega⟩ ⟨(i 0).val % 4096, by omega⟩ (i 1))
    + md (ix2 ⟨1 + (i 0).val / 4096, by omega⟩ ⟨4096 + (i 1).val, by omega⟩) * mixed p q o w (i 0) (i 1)

/-- The rows `v` normalised and modulated by the feed-forward block's gain, scale and shift. -/
def normed (v : S32768x2048.Idx → EReal) (g : Vec Ideal S2048 .f32) (md : Vec Ideal S16x12288 .f32) (i : S32768x2048.Idx) : EReal :=
  have hi : (i 0).val < 32768 := (i 0).isLt
  have hj : (i 1).val < 2048 := (i 1).isLt
  modulated (v i) (∑ k : Fin 2048, v (ix2 (i 0) k) * v (ix2 (i 0) k)) (g (ix1 (i 1)))
    (md (ix2 ⟨1 + (i 0).val / 4096, by omega⟩ ⟨8192 + (i 1).val, by omega⟩))
    (md (ix2 ⟨1 + (i 0).val / 4096, by omega⟩ ⟨6144 + (i 1).val, by omega⟩))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![2, 0] := (by decide +kernel : ∀ t : Fin grid0.N, _)
theorem idx6 : ∀ t : Fin cfg0.N, win0_6.index t = ![3, 0] := (by decide +kernel : ∀ t : Fin grid0.N, _)
theorem idx7 : ∀ t : Fin cfg0.N, win0_7.index t = ![6 * (1 + t.val / 8) + 2, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![6 * (1 + t.val / 8) + 4, 0, 0] := (by decide +kernel : ∀ t : Fin grid0.N, _)
theorem idx10 : ∀ t : Fin cfg0.N, win0_10.index t = ![6 * (1 + t.val / 8) + 3, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

variable (m : (ℓ : Loc nD τ sig) → Buf (Elt Ideal) ℓ)

theorem pt_lt (t : Fin cfg0.N) : t.val < 64 := lt_of_lt_of_eq t.isLt N_0

theorem x_blk (c : Dev nD) (t : Fin cfg0.N) (r : Fin 512) (a : Fin 2048) :
    iblk m c 3 t (ix2 r a) = m ((c : Thread nD τ).loc main_arg3)
      (ix3 ⟨t.val / 8, by have := pt_lt t; omega⟩ ⟨t.val % 8 * 512 + r.val, by omega⟩ a) := by
  blk_simp [iblk]
  entry_read
  pointwise
  blk_ext [idx3 t]

theorem gate_blk (c : Dev nD) (t : Fin cfg0.N) (a : Fin 2048) :
    iblk m c 7 t (ix3 0 0 a) = m ((c : Thread nD τ).loc main_arg6)
      (ix2 ⟨1 + t.val / 8, by have := pt_lt t; omega⟩ ⟨4096 + a.val, by omega⟩) := by
  blk_simp [iblk]
  entry_read
  pointwise
  blk_ext [idx7 t]

theorem gain_blk (c : Dev nD) (t : Fin cfg0.N) (a : Fin 2048) :
    iblk m c 8 t (ix2 0 a) = m ((c : Thread nD τ).loc main_arg5) (ix1 a) := by
  blk_simp [iblk]
  entry_read
  pointwise
  blk_ext [idx8 t]

theorem scale_blk (c : Dev nD) (t : Fin cfg0.N) (a : Fin 2048) :
    iblk m c 9 t (ix3 0 0 a) = m ((c : Thread nD τ).loc main_arg6)
      (ix2 ⟨1 + t.val / 8, by have := pt_lt t; omega⟩ ⟨8192 + a.val, by omega⟩) := by
  blk_simp [iblk]
  entry_read
  pointwise
  blk_ext [idx9 t]

theorem shift_blk (c : Dev nD) (t : Fin cfg0.N) (a : Fin 2048) :
    iblk m c 10 t (ix3 0 0 a) = m ((c : Thread nD τ).loc main_arg6)
      (ix2 ⟨1 + t.val / 8, by have := pt_lt t; omega⟩ ⟨6144 + a.val, by omega⟩) := by
  blk_simp [iblk]
  entry_read
  pointwise
  blk_ext [idx10 t]

/-- The stream's block at point `t` holds tokens `512 t` and following. -/
theorem stream_blk (c : Dev nD) (t : Fin cfg0.N) (r : Fin 512) (j : Fin 2048) :
    k0_pay2 (F := Ideal) (iblk m c 0 t) (iblk m c 4 t) (iblk m c 1 t) (iblk m c 5 t) (iblk m c 2 t) (iblk m c 6 t) (iblk m c 3 t)
        (iblk m c 7 t) (ix2 r j)
      = stream (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (ix2 ⟨t.val * 512 + r.val, by have := pt_lt t; omega⟩ j) := by
  have e8 : (t.val * 512 + r.val) / 4096 = t.val / 8 := by omega
  have em : (t.val * 512 + r.val) % 4096 = t.val % 8 * 512 + r.val := by omega
  rw [pay2_apply]
  simp only [stream, mixed, ix2_0, ix2_1, x_blk, gate_blk, e8, em]
  refine congrArg₂ (· + ·) rfl (congrArg₂ (· * ·) rfl (congrArg₂ (· + ·) (congrArg₂ (· + ·) ?_ ?_) ?_))
  · refine Fin.sum_fin_congr fun k => ?_
    blk_point [iblk, V, idx0 t, idx4 t]
  · refine Fin.sum_fin_congr fun k => ?_
    blk_point [iblk, V, idx1 t, idx5 t]
  · refine Fin.sum_fin_congr fun k => ?_
    blk_point [iblk, V, idx2 t, idx6 t]

theorem final_stream (c : Dev nD) : (dats m 0 c).arrAt 11 cfg0.N
    = stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine (dats m 0 c).arrAt_eq_of_covers 11 _ (by decide +kernel) fun t hf y => ?_
  blk_simp
  rw [after0_11, out_stream]
  refine (congrArg _ (ix2_eta y).symm).trans ((stream_blk m c t (y 0) (y 1)).trans (congrArg _ ?_))
  blk_ext [idx11 t]

/-- The second result's block at point `t` holds the normalised tokens `512 t` and following. -/
theorem normed_blk (c : Dev nD) (t : Fin cfg0.N) (r : Fin 512) (j : Fin 2048) :
    k0_pay1 (F := Ideal) (k0_pay3 (iblk m c 0 t) (iblk m c 4 t) (iblk m c 1 t) (iblk m c 5 t) (iblk m c 2 t) (iblk m c 6 t)
        (iblk m c 3 t) (iblk m c 7 t)) (iblk m c 8 t) (iblk m c 9 t) (iblk m c 10 t) (ix2 r j)
      = normed (stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)))
        (m ((c : Thread nD τ).loc main_arg5)) (m ((c : Thread nD τ).loc main_arg6))
        (ix2 ⟨t.val * 512 + r.val, by have := pt_lt t; omega⟩ j) := by
  have e8 : (t.val * 512 + r.val) / 4096 = t.val / 8 := by omega
  rw [pay13_apply]
  simp only [normed, ix2_0, ix2_1, stream_blk, gain_blk, scale_blk, shift_blk, e8]

theorem final_normed (c : Dev nD) : (dats m 0 c).arrAt 12 cfg0.N
    = normed (stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)))
        (m ((c : Thread nD τ).loc main_arg5)) (m ((c : Thread nD τ).loc main_arg6)) := by
  refine (dats m 0 c).arrAt_eq_of_covers 12 _ (by decide +kernel) fun t hf y => ?_
  blk_simp
  rw [after0_12, out_normed]
  refine (congrArg _ (ix2_eta y).symm).trans ((normed_blk m c t (y 0) (y 1)).trans (congrArg _ ?_))
  blk_ext [idx12 t]

end Cert.OutProjIdeal.Value

end
-- ==== Proof.OutProjV.Claims.lean ====
/-
  The output projection reference read at an index, and the two claims about the output projection kernel's values.
-/
module

public import proofs.«01_k».proof.Defs
public import proofs.«01_k».proof.Proof.OutProjV.Array
public import proofs.«01_k».proof.Proof.Gen.OutProj.Frame
public import proofs.«01_k».proof.Proof.Gen.OutProjRefIdeal.Run
public import Idealize.ShloMosaic.Lib.Quiescent

@[expose] public section

noncomputable section

namespace Cert.Proof.OutProj

open Idealize.ShloMosaic Idealize.ShloMosaic.TcCoe Idealize.SL.Sem
open Cert.OutProjRefIdeal Cert.OutProjRefIdeal.Gen
open scoped BigOperators

/-- A sum over the 2048 input channels is the sums over the attention's, the convolution's and the pool's. -/
theorem sum_split (f : Fin 2048 → EReal) : ∑ k, f k = ((∑ k : Fin 1024, f ⟨k.val, by omega⟩) + ∑ k : Fin 512, f ⟨1024 + k.val, by omega⟩)
    + ∑ k : Fin 512, f ⟨1536 + k.val, by omega⟩ :=
  (Fin.sum_univ_add (a := 1536) (b := 512) f).trans
    (congrArg₂ (· + ·) (Fin.sum_univ_add (a := 1024) (b := 512) fun k => f (Fin.castAdd 512 k)) rfl)

/-- The three mixers' outputs side by side times the weight are the three products added. -/
theorem mixed_eq (p : FVec Ideal S32768x1024 .bf16) (q : FVec Ideal S32768x512 .f32) (o : FVec Ideal S32768x512 .bf16)
    (w : FVec Ideal S2048x2048 .f32) (r : Fin 32768) (j : Fin 2048) :
    (∑ x : Fin 2048, (if h : x.val < 1024 then p (ix2 r ⟨x.val, h⟩)
      else if h' : x.val - 1024 < 512 then q (ix2 r ⟨x.val - 1024, h'⟩)
      else o (ix2 r ⟨x.val - 1024 - 512, by omega⟩)) * w (ix2 x j)) = Cert.OutProjIdeal.Value.mixed p q o w r j := by
  rw [sum_split]
  refine congrArg₂ (· + ·) (congrArg₂ (· + ·) ?_ ?_) ?_ <;> refine Fin.sum_fin_congr fun k => congrArg (· * _) ?_
  · rw [dif_pos k.isLt]
  · rw [dif_neg (by dsimp only; omega), dif_pos (by dsimp only; omega)]
    exact congrArg q (congrArg (ix2 r) (Fin.ext (by dsimp only; omega)))
  · rw [dif_neg (by dsimp only; omega), dif_neg (by dsimp only; omega)]
    exact congrArg o (congrArg (ix2 r) (Fin.ext (by dsimp only; omega)))

/-- The reference's first result is the residual stream after the mixing, element by element. -/
theorem ref_stream (at' : FVec Ideal S32768x1024 .bf16) (hy : FVec Ideal S32768x512 .f32) (po : FVec Ideal S32768x512 .bf16)
    (x : FVec Ideal S8x4096x2048 .f32) (w : FVec Ideal S2048x2048 .f32) (md : FVec Ideal S16x12288 .f32) :
    (shapeCast S32768x2048 (addf x (mulf (broadcastInDim S8x4096x2048 ![0, 1, 2] bcast_S8x1x2048_S8x4096x2048_0_1_2 (extractStridedSlice S8x1x2048 ![0, 0, 4096] (broadcastInDim S8x1x12288 ![0, 2] bcast_S8x12288_S8x1x12288_0_2 (extractStridedSlice S8x12288 ![1, 0] md slices_S16x12288_S8x12288_1_0)) slices_S8x1x12288_S8x1x2048_0_0_4096)) (shapeCast _ (Host.dotGeneral dot_S32768x2048_S2048x2048_S32768x2048_1_0_0_1_n_n none ((concatenate S32768x2048 1 [⟨S32768x1024, ((extf .f32 at' bitsLt_bf16_f32) : FVec Ideal S32768x1024 .f32)⟩, ⟨S32768x512, (hy : FVec Ideal S32768x512 .f32)⟩, ⟨S32768x512, ((extf .f32 po bitsLt_bf16_f32) : FVec Ideal S32768x512 .f32)⟩] concatenates_S32768x1024_S32768x512_S32768x512_S32768x2048_d1 : FVec Ideal S32768x2048 .f32)) w) shapeCasts_S32768x2048_S8x4096x2048))) shapeCasts_S8x4096x2048_S32768x2048 : FVec Ideal S32768x2048 .f32) = Cert.OutProjIdeal.Value.stream at' hy po x w md := by
  funext i
  obtain ⟨r, j, rfl⟩ : ∃ (r : Fin 32768) (j : Fin 2048), i = ix2 r j := ⟨i 0, i 1, (ix2_eta i).symm⟩
  pointwise [Cert.OutProjIdeal.Value.stream]
  rw [mixed_eq]

/-- The reference's normalisation and modulation of a stream, element by element. -/
theorem ref_norm (v : FVec Ideal S8x4096x2048 .f32) (g : FVec Ideal S2048 .f32) (md : FVec Ideal S16x12288 .f32) :
    (truncf .bf16 (shapeCast S32768x2048 (addf (mulf (mulf (mulf v (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf v v) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (extractStridedSlice S8x1x2048 ![0, 0, 8192] (broadcastInDim S8x1x12288 ![0, 2] bcast_S8x12288_S8x1x12288_0_2 (extractStridedSlice S8x12288 ![1, 0] md slices_S16x12288_S8x12288_1_0)) slices_S8x1x12288_S8x1x2048_0_0_8192)))) (broadcastInDim S8x4096x2048 ![0, 1, 2] bcast_S8x1x2048_S8x4096x2048_0_1_2 (extractStridedSlice S8x1x2048 ![0, 0, 6144] (broadcastInDim S8x1x12288 ![0, 2] bcast_S8x12288_S8x1x12288_0_2 (extractStridedSlice S8x12288 ![1, 0] md slices_S16x12288_S8x12288_1_0)) slices_S8x1x12288_S8x1x2048_0_0_6144))) shapeCasts_S8x4096x2048_S32768x2048) bitsLt_bf16_f32 : FVec Ideal S32768x2048 .bf16)
      = Cert.OutProjIdeal.Value.normed (shapeCast S32768x2048 v shapeCasts_S8x4096x2048_S32768x2048) g md := by
  funext i
  pointwise [Cert.OutProjIdeal.Value.normed, Cert.OutProjIdeal.Value.modulated]

/-- The reference's second result is that stream normalised and modulated, element by element. -/
theorem ref_normed (m : (ℓ : Loc nD τ sig) → Buf (Elt Ideal) ℓ) (c : Dev nD) :
    Cert.OutProjRefIdeal.Value.res_main_v34 (F := Ideal) m c = Cert.OutProjIdeal.Value.normed
      (Cert.OutProjIdeal.Value.stream (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg6)))
      (m ((c.tc : Thread nD τ).loc main_arg5)) (m ((c.tc : Thread nD τ).loc main_arg6)) :=
  (ref_norm _ _ _).trans (congrArg (fun v => Cert.OutProjIdeal.Value.normed v _ _) (ref_stream _ _ _ _ _ _))

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2.2,
      Idealize.ShloMosaic.sem_eq_zero_of_no_sems (by decide) r.2⟩)
    (Cert.OutProjRefIdeal.Value.run (F := Ideal) m ρ)

/-- No operation of the kernel was replaced by another. -/
theorem preserves : Cert.preserves_OutProj_OutProjIdeal := trivial

/-- The kernel's two result arrays and the reference's two results are the same functions of the arguments. -/
theorem algebraic : Cert.algebraic_OutProjIdeal_OutProjRefIdeal := by
  intro m ρ m' ρ' _ hagree
  refine ⟨_, _, Cert.OutProjIdeal.Value.run_blocks (F := Ideal) m ρ, ?_⟩
  refine (θ_run Cert.OutProjRefIdeal.defs _ _).mono (fun _ h c => ⟨(h c).1.trans ?_, (h c).2.1.trans ?_, (h c).2.2⟩)
    (Cert.OutProjRefIdeal.Value.run (F := Ideal) m' ρ')
  · obtain ⟨h0, h1, h2, h3, h4, h5, h6⟩ := hagree c
    rw [h0, h1, h2, h3, h4, h6]
    exact (ref_stream _ _ _ _ _ _).trans (Cert.OutProjIdeal.Value.final_stream m c).symm
  · obtain ⟨h0, h1, h2, h3, h4, h5, h6⟩ := hagree c
    rw [ref_normed, h0, h1, h2, h3, h4, h5, h6]
    exact (Cert.OutProjIdeal.Value.final_normed m c).symm

end Cert.Proof.OutProj

end
-- ==== Proof.PrepV.Groups.lean ====
/-
  The sum over a group of 64 lanes, as a product with the matrix of ones within the groups.
-/
module

public import proofs.«01_k».proof.Proof.Gen.PrepIdeal.Value
public import Idealize.ShloMosaic.Lib.Pipeline.ValueKit
public import Idealize.ShloMosaic.Lib.Pointwise
public import Idealize.ShloMosaic.Lib.WordCmp
public import Idealize.ShloMosaic.Lib.Pipeline.ReadBack

@[expose] public section

noncomputable section

namespace Cert.PrepIdeal.Value

open Cert.PrepIdeal Cert.PrepIdeal.Gen Idealize.ShloMosaic Idealize.ShloMosaic.TcCoe Idealize.SL.Sem
open scoped BigOperators

/-- The matrix of ones within each group of 64 lanes. -/
def groups : FVec Ideal S128x128 .bf16 := k0_pay8 (F := Ideal) k0_pay4 k0_pay5 k0_pay6 k0_pay7

/-- The group of the column's lane. -/
def colGroup : IVec S128x128 32 := select (andi k0_pay6 k0_pay7) (subi k0_pay5 (broadcast S128x128 1#32)) k0_pay5

theorem row_eq (k j : Fin 128) : k0_pay4 (ix2 k j) = BitVec.ofNat 32 (k.val / 64) := by
  have h : ∀ k : Fin 128, k0_pay4 (ix2 k (0 : Fin 128)) = BitVec.ofNat 32 (k.val / 64) := by decide +kernel
  exact (show k0_pay4 (ix2 k j) = k0_pay4 (ix2 k 0) from rfl).trans (h k)

theorem col_eq (k j : Fin 128) : colGroup (ix2 k j) = BitVec.ofNat 32 (j.val / 64) := by
  have h : ∀ j : Fin 128, colGroup (ix2 (0 : Fin 128) j) = BitVec.ofNat 32 (j.val / 64) := by decide +kernel
  exact (show colGroup (ix2 k j) = colGroup (ix2 0 j) from rfl).trans (h j)

theorem groups_apply (k j : Fin 128) : groups (ix2 k j) = if k.val / 64 = j.val / 64 then (1 : EReal) else 0 := by
  have e : groups (ix2 k j) = Scalar.select (IntOp.cmpi .eq (k0_pay4 (ix2 k j)) (colGroup (ix2 k j))) (1 : EReal) 0 := by
    unfold groups colGroup
    pointwise [k0_pay8]
  rw [e, row_eq, col_eq, WordCmp.cmpi_eq_eq]
  have hk : (BitVec.ofNat 32 (k.val / 64)).toNat = k.val / 64 := by rw [BitVec.toNat_ofNat]; omega
  have hj : (BitVec.ofNat 32 (j.val / 64)).toNat = j.val / 64 := by rw [BitVec.toNat_ofNat]; omega
  by_cases h : k.val / 64 = j.val / 64
  · rw [h, if_pos rfl, decide_eq_true rfl]; rfl
  · have hne : BitVec.ofNat 32 (k.val / 64) ≠ BitVec.ofNat 32 (j.val / 64) := fun hh => h (by rw [← hk, ← hj, hh])
    rw [if_neg h, decide_eq_false hne]; rfl

/-- A product with the matrix of ones adds the 64 entries of the lane's group. -/
theorem group_sum (f : Fin 128 → EReal) (j : Fin 128) :
    ∑ k : Fin 128, f k * groups (ix2 k j) = ∑ i : Fin 64, f ⟨j.val / 64 * 64 + i.val, by omega⟩ := by
  simp only [groups_apply]
  refine (Fin.sum_univ_add (a := 64) (b := 64) (fun k : Fin 128 => f k * if k.val / 64 = j.val / 64 then (1 : EReal) else 0)).trans ?_
  rcases (by omega : j.val / 64 = 0 ∨ j.val / 64 = 1) with h | h
  · have hz : (∑ i : Fin 64, f (Fin.natAdd 64 i) * if (Fin.natAdd 64 i).val / 64 = j.val / 64 then (1 : EReal) else 0) = 0 :=
      Finset.sum_eq_zero fun i _ => by
        rw [if_neg (by rw [h, Fin.val_natAdd]; omega), mul_zero]
    refine (congrArg₂ (fun a b : EReal => a + b) (Finset.sum_congr rfl fun i _ => ?_) hz).trans (add_zero _)
    rw [if_pos (by rw [h, Fin.val_castAdd]; omega), mul_one]
    exact congrArg f (Fin.ext (by rw [Fin.val_castAdd]; show i.val = j.val / 64 * 64 + i.val; omega))
  · have hz : (∑ i : Fin 64, f (Fin.castAdd 64 i) * if (Fin.castAdd 64 i).val / 64 = j.val / 64 then (1 : EReal) else 0) = 0 :=
      Finset.sum_eq_zero fun i _ => by
        rw [if_neg (by rw [h, Fin.val_castAdd]; omega), mul_zero]
    refine (congrArg₂ (fun a b : EReal => a + b) hz (Finset.sum_congr rfl fun i _ => ?_)).trans (zero_add _)
    rw [if_pos (by rw [h, Fin.val_natAdd]; omega), mul_one]
    exact congrArg f (Fin.ext (by rw [Fin.val_natAdd]; show 64 + i.val = j.val / 64 * 64 + i.val; omega))

end Cert.PrepIdeal.Value

end
-- ==== Proof.PrepV.Block.lean ====
/-
  One grid point of the preparation of queries and keys: the three blocks it writes, element by element.
-/
module

public import proofs.«01_k».proof.Proof.PrepV.Groups
public import Idealize.ShloMosaic.Lib.Pipeline.ValueKit
public import Idealize.ShloMosaic.Lib.Pointwise
public import Idealize.ShloMosaic.Lib.Pipeline.ReadBack

@[expose] public section

noncomputable section

namespace Cert.PrepIdeal.Value

open Cert.PrepIdeal Cert.PrepIdeal.Gen Idealize.ShloMosaic Idealize.ShloMosaic.TcCoe Idealize.SL.Sem
open scoped BigOperators

/-- One head's rows, normalised and scaled. -/
def head (x : Vec Ideal S256x128 .f32) (g : Vec Ideal S1x128 .f32) : FVec Ideal S256x128 .f32 := k0_pay14 (F := Ideal) groups x g

theorem out_q (x0 x1 : Vec Ideal S256x1024 .f32) (x2 x3 : Vec Ideal S1x128 .f32) : out0_4 x0 x1 x2 x3 = View.canon
    [⟨r0_8, k0_pay2 (head (View.ld x0 r0_8) (View.ld x2 r0_1))⟩, ⟨r0_7, k0_pay2 (head (View.ld x0 r0_7) (View.ld x2 r0_1))⟩,
      ⟨r0_6, k0_pay2 (head (View.ld x0 r0_6) (View.ld x2 r0_1))⟩, ⟨r0_5, k0_pay2 (head (View.ld x0 r0_5) (View.ld x2 r0_1))⟩,
      ⟨r0_4, k0_pay2 (head (View.ld x0 r0_4) (View.ld x2 r0_1))⟩, ⟨r0_3, k0_pay2 (head (View.ld x0 r0_3) (View.ld x2 r0_1))⟩,
      ⟨r0_2, k0_pay2 (head (View.ld x0 r0_2) (View.ld x2 r0_1))⟩, ⟨r0_0, k0_pay2 (head (View.ld x0 r0_0) (View.ld x2 r0_1))⟩] := rfl

theorem out_k (x0 x1 : Vec Ideal S256x1024 .f32) (x2 x3 : Vec Ideal S1x128 .f32) : out0_6 x0 x1 x2 x3 = View.canon
    [⟨r0_8, head (View.ld x1 r0_8) (View.ld x3 r0_1)⟩, ⟨r0_7, head (View.ld x1 r0_7) (View.ld x3 r0_1)⟩,
      ⟨r0_6, head (View.ld x1 r0_6) (View.ld x3 r0_1)⟩, ⟨r0_5, head (View.ld x1 r0_5) (View.ld x3 r0_1)⟩,
      ⟨r0_4, head (View.ld x1 r0_4) (View.ld x3 r0_1)⟩, ⟨r0_3, head (View.ld x1 r0_3) (View.ld x3 r0_1)⟩,
      ⟨r0_2, head (View.ld x1 r0_2) (View.ld x3 r0_1)⟩, ⟨r0_0, head (View.ld x1 r0_0) (View.ld x3 r0_1)⟩] := rfl

theorem out_k' (x0 x1 : Vec Ideal S256x1024 .f32) (x2 x3 : Vec Ideal S1x128 .f32) : out0_5 x0 x1 x2 x3 = View.canon
    [⟨r0_8, head (View.ld x1 r0_8) (View.ld x3 r0_1)⟩, ⟨r0_7, head (View.ld x1 r0_7) (View.ld x3 r0_1)⟩,
      ⟨r0_6, head (View.ld x1 r0_6) (View.ld x3 r0_1)⟩, ⟨r0_5, head (View.ld x1 r0_5) (View.ld x3 r0_1)⟩,
      ⟨r0_4, head (View.ld x1 r0_4) (View.ld x3 r0_1)⟩, ⟨r0_3, head (View.ld x1 r0_3) (View.ld x3 r0_1)⟩,
      ⟨r0_2, head (View.ld x1 r0_2) (View.ld x3 r0_1)⟩, ⟨r0_0, head (View.ld x1 r0_0) (View.ld x3 r0_1)⟩] := rfl

theorem head_apply (x : Vec Ideal S256x128 .f32) (g : Vec Ideal S1x128 .f32) (y : S256x128.Idx) :
    head x g y = x y * Ideal.rsqrt (((∑ k : Fin 128, x (ix2 (y 0) k) * x (ix2 (y 0) k) * groups (ix2 k (y 1)))
      + ∑ k : Fin 128, (x (ix2 (y 0) k) * x (ix2 (y 0) k) - x (ix2 (y 0) k) * x (ix2 (y 0) k)) * groups (ix2 k (y 1)))
        * Ideal.ofBits .f32 0x3C800000#32 + Ideal.ofBits .f32 0x358637BD#32) * g (ix2 0 (y 1)) := by
  unfold head
  generalize groups = M
  pointwise [k0_pay14]

/-- A square of a number lost nothing when the number itself is taken away from it. -/
theorem sub_square {a : EReal} (h : ∃ r : ℝ, a = (r : EReal)) : a * a - a * a = 0 := by
  obtain ⟨r, rfl⟩ := h
  rw [← EReal.coe_mul, ← EReal.coe_sub, sub_self, EReal.coe_zero]

/-- Lane `j` of row `r`, divided by the root mean square of its group of 64 lanes and scaled by the gain `g` of its place in it. -/
def unit (v : EReal) (s : EReal) (g : EReal) : EReal :=
  v * Ideal.rsqrt (s * Ideal.ofBits .f32 0x3C800000#32 + Ideal.ofBits .f32 0x358637BD#32) * g

def blockEntry (x : Vec Ideal S256x1024 .f32) (g : Vec Ideal S1x128 .f32) (y : S256x1024.Idx) : EReal :=
  have hj : (y 1).val < 1024 := (y 1).isLt
  unit (x y) (∑ i : Fin 64, x (ix2 (y 0) ⟨(y 1).val / 64 * 64 + i.val, by omega⟩) * x (ix2 (y 0) ⟨(y 1).val / 64 * 64 + i.val, by omega⟩))
    (g (ix2 0 ⟨(y 1).val % 128, by omega⟩))

/-- One head's rows, where its entries are real numbers. -/
theorem head_row (x : Vec Ideal S256x128 .f32) (g : Vec Ideal S1x128 .f32) (hx : ∀ i, ∃ r : ℝ, x i = (r : EReal)) (r : Fin 256) (j : Fin 128) :
    head x g (ix2 r j) = unit (x (ix2 r j))
      (∑ i : Fin 64, x (ix2 r ⟨j.val / 64 * 64 + i.val, by omega⟩) * x (ix2 r ⟨j.val / 64 * 64 + i.val, by omega⟩)) (g (ix2 0 j)) := by
  have h := head_apply x g (ix2 r j)
  have ha : (∑ k : Fin 128, x (ix2 r k) * x (ix2 r k) * groups (ix2 k j) : EReal) = _ :=
    group_sum (fun k => x (ix2 r k) * x (ix2 r k)) j
  have hb : (∑ k : Fin 128, (x (ix2 r k) * x (ix2 r k) - x (ix2 r k) * x (ix2 r k)) * groups (ix2 k j) : EReal) = 0 :=
    Finset.sum_eq_zero fun k _ => by rw [sub_square (hx _), zero_mul]
  refine h.trans ?_
  show x (ix2 r j) * Ideal.rsqrt (((∑ k : Fin 128, x (ix2 r k) * x (ix2 r k) * groups (ix2 k j) : EReal)
    + ∑ k : Fin 128, (x (ix2 r k) * x (ix2 r k) - x (ix2 r k) * x (ix2 r k)) * groups (ix2 k j)) * _ + _) * _ = _
  rw [ha, hb, add_zero]
  rfl

theorem head_of (x : Vec Ideal S256x1024 .f32) (g : Vec Ideal S1x128 .f32) (hx : ∀ i, ∃ r : ℝ, x i = (r : EReal))
    (x' : Vec Ideal S256x128 .f32) (g' : Vec Ideal S1x128 .f32) (off : Nat) (ho : off % 128 = 0) (hin : off + 128 ≤ 1024)
    (e : ∀ (r : Fin 256) (k : Fin 128), x' (ix2 r k) = x (ix2 r ⟨off + k.val, by omega⟩)) (eg : ∀ k : Fin 128, g' (ix2 0 k) = g (ix2 0 k))
    (r : Fin 256) (j : Fin 128) : head x' g' (ix2 r j) = blockEntry x g (ix2 r ⟨off + j.val, by omega⟩) := by
  have hx' : ∀ i, ∃ r : ℝ, x' i = (r : EReal) := fun i => by
    obtain ⟨s, hs⟩ := hx (ix2 (i 0) ⟨off + (i 1).val, by have : (i 1).val < 128 := (i 1).isLt; omega⟩)
    exact ⟨s, (congrArg x' (ix2_eta i).symm).trans ((e (i 0) (i 1)).trans hs)⟩
  rw [head_row x' g' hx' r j]
  simp only [e, eg]
  unfold blockEntry
  simp only [ix2_0, ix2_1]
  have e1 : ∀ i : Fin 64, off + (j.val / 64 * 64 + i.val) = (off + j.val) / 64 * 64 + i.val := fun i => by omega
  have e2 : (⟨(off + j.val) % 128, by omega⟩ : Fin 128) = j := Fin.ext (by show (off + j.val) % 128 = j.val; omega)
  simp only [e1, e2]

theorem ld_row (x : Vec Ideal S256x1024 .f32) (off : Nat) (hin : off + 128 ≤ 1024)
    (inb : ∀ a, (![0, off] : Fin 2 → Nat) a + S256x128.size a ≤ S256x1024.size a) (r : Fin 256) (k : Fin 128) :
    (View.ld x (Rect.unit (s := S256x1024) ![0, off] S256x128.size inb) : Vec Ideal S256x128 .f32) (ix2 r k)
      = x (ix2 r ⟨off + k.val, by omega⟩) := by
  refine congrArg x ?_
  blk_ext
  · show 0 + 1 * r.val = r.val
    omega
  · show off + 1 * k.val = off + k.val
    omega

theorem ld_gain (g : Vec Ideal S1x128 .f32) (k : Fin 128) : (View.ld g r0_1 : Vec Ideal S1x128 .f32) (ix2 0 k) = g (ix2 0 k) := by
  refine congrArg g ?_
  blk_ext
  show 0 + 1 * k.val = k.val
  omega

theorem head_at (x : Vec Ideal S256x1024 .f32) (g : Vec Ideal S1x128 .f32) (hx : ∀ i, ∃ r : ℝ, x i = (r : EReal))
    (off : Nat) (ho : off % 128 = 0) (inb : ∀ a, (![0, off] : Fin 2 → Nat) a + S256x128.size a ≤ S256x1024.size a)
    (z : S256x128.Idx) (y : S256x1024.Idx) (h0 : (y 0).val = (z 0).val) (h1 : (y 1).val = off + (z 1).val) :
    head (View.ld x (Rect.unit (s := S256x1024) ![0, off] S256x128.size inb)) (View.ld g r0_1) z = blockEntry x g y := by
  have hz : (z 1).val < 128 := (z 1).isLt
  have hin : off + 128 ≤ 1024 := inb 1
  refine (congrArg _ (ix2_eta z).symm).trans ((head_of x g hx _ _ off ho hin (ld_row x off hin inb) (ld_gain g) (z 0) (z 1)).trans ?_)
  refine congrArg (blockEntry x g) ?_
  refine (congrArg₂ ix2 (Fin.ext h0.symm) (Fin.ext h1.symm)).trans (ix2_eta y)

theorem k_block (x0 x1 : Vec Ideal S256x1024 .f32) (x2 x3 : Vec Ideal S1x128 .f32) (hx : ∀ i, ∃ r : ℝ, x1 i = (r : EReal))
    (y : S256x1024.Idx) : out0_6 x0 x1 x2 x3 y = blockEntry x1 x3 y := by
  rw [out_k]
  canon_tiles z h
  all_goals exact head_at x1 x3 hx _ (by decide) _ z y (by omega) (by omega)

theorem k_block' (x0 x1 : Vec Ideal S256x1024 .f32) (x2 x3 : Vec Ideal S1x128 .f32) (hx : ∀ i, ∃ r : ℝ, x1 i = (r : EReal))
    (y : S256x1024.Idx) : out0_5 x0 x1 x2 x3 y = blockEntry x1 x3 y := by
  rw [out_k']
  canon_tiles z h
  all_goals exact head_at x1 x3 hx _ (by decide) _ z y (by omega) (by omega)

theorem scale_eq : Named.named (F := Ideal) κ "q_scale" (φ := .f32) 0x3E38AA3B#32 = ((8⁻¹ * (Real.log 2)⁻¹ : ℝ) : EReal) :=
  IdealRules.named_const.ideal_named_scalar _ _ _ _ rfl

theorem pay2_apply (v : FVec Ideal S256x128 .f32) (z : S256x128.Idx) :
    k0_pay2 v z = v z * (((8⁻¹ * (Real.log 2)⁻¹ : ℝ) : EReal)) := by
  rw [← scale_eq]; rfl

theorem q_block (x0 x1 : Vec Ideal S256x1024 .f32) (x2 x3 : Vec Ideal S1x128 .f32) (hx : ∀ i, ∃ r : ℝ, x0 i = (r : EReal))
    (y : S256x1024.Idx) : out0_4 x0 x1 x2 x3 y = blockEntry x0 x2 y * (((8⁻¹ * (Real.log 2)⁻¹ : ℝ) : EReal)) := by
  rw [out_q]
  canon_tiles z h
  all_goals
    rw [pay2_apply]
    exact congrArg (fun v : EReal => v * _) (head_at x0 x2 hx _ (by decide) _ z y (by omega) (by omega))

end Cert.PrepIdeal.Value

end
-- ==== Proof.PrepV.Array.lean ====
/-
  The preparation's three result arrays: the normalised queries and keys of the projected rows, and the keys of the state.
-/
module

public import proofs.«01_k».proof.Proof.PrepV.Block

@[expose] public section

noncomputable section

namespace Cert.PrepIdeal.Value

open Cert.PrepIdeal Cert.PrepIdeal.Gen Idealize.ShloMosaic Idealize.ShloMosaic.TcCoe Idealize.SL.Sem
open scoped BigOperators

/-- Lane `i 1` of row `i 0` of the 1024 columns from `off` on, normalised over its group and scaled. -/
def entry (p : Vec Ideal S8192x5120 .f32) (g : Vec Ideal S64 .f32) (off : Nat) (ho : off ≤ 1024) (i : S8192x1024.Idx) : EReal :=
  have hj : (i 1).val < 1024 := (i 1).isLt
  unit (p (ix2 (i 0) ⟨off + (i 1).val, by omega⟩))
    (∑ k : Fin 64, p (ix2 (i 0) ⟨off + ((i 1).val / 64 * 64 + k.val), by omega⟩) * p (ix2 (i 0) ⟨off + ((i 1).val / 64 * 64 + k.val), by omega⟩))
    (g (ix1 ⟨(i 1).val % 64, by omega⟩))

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (m : (ℓ : Loc nD τ sig) → Buf (Elt Ideal) ℓ)

theorem pt_lt (t : Fin cfg0.N) : t.val < 32 := lt_of_lt_of_eq t.isLt N_0

theorem q_blk (c : Dev nD) (t : Fin cfg0.N) (r : Fin 256) (a : Fin 1024) :
    iblk m c 0 t (ix2 r a) = m ((c : Thread nD τ).loc main_arg0) (ix2 ⟨t.val * 256 + r.val, by have := pt_lt t; omega⟩ ⟨0 + a.val, by omega⟩) := by
  blk_simp [iblk]
  entry_read
  pointwise
  blk_ext [idx0 t]

theorem k_blk (c : Dev nD) (t : Fin cfg0.N) (r : Fin 256) (a : Fin 1024) :
    iblk m c 1 t (ix2 r a) = m ((c : Thread nD τ).loc main_arg0) (ix2 ⟨t.val * 256 + r.val, by have := pt_lt t; omega⟩ ⟨1024 + a.val, by omega⟩) := by
  blk_simp [iblk]
  entry_read
  pointwise
  blk_ext [idx1 t]

theorem gq_blk (c : Dev nD) (t : Fin cfg0.N) (a : Fin 128) :
    iblk m c 2 t (ix2 0 a) = m ((c : Thread nD τ).loc main_arg1) (ix1 ⟨a.val % 64, by omega⟩) := by
  blk_simp [iblk]
  entry_read
  pointwise
  blk_ext [idx2 t]

theorem gk_blk (c : Dev nD) (t : Fin cfg0.N) (a : Fin 128) :
    iblk m c 3 t (ix2 0 a) = m ((c : Thread nD τ).loc main_arg2) (ix1 ⟨a.val % 64, by omega⟩) := by
  blk_simp [iblk]
  entry_read
  pointwise
  blk_ext [idx3 t]

/-- A block's entry is the array's entry at the block's place. -/
theorem entry_of (p : Vec Ideal S8192x5120 .f32) (g : Vec Ideal S64 .f32) (off : Nat) (ho : off ≤ 1024) (x : Vec Ideal S256x1024 .f32)
    (g' : Vec Ideal S1x128 .f32) (n : Nat) (hn : n < 32)
    (hx : ∀ (r : Fin 256) (a : Fin 1024), x (ix2 r a) = p (ix2 ⟨n * 256 + r.val, by omega⟩ ⟨off + a.val, by omega⟩))
    (hg : ∀ a : Fin 128, g' (ix2 0 a) = g (ix1 ⟨a.val % 64, by omega⟩)) (r : Fin 256) (j : Fin 1024) :
    blockEntry x g' (ix2 r j) = entry p g off ho (ix2 ⟨n * 256 + r.val, by omega⟩ j) := by
  unfold blockEntry entry
  simp only [ix2_0, ix2_1, hx, hg]
  have e : (⟨j.val % 128 % 64, by omega⟩ : Fin 64) = ⟨j.val % 64, by omega⟩ := Fin.ext (by show j.val % 128 % 64 = j.val % 64; omega)
  rw [e]

/-- The query and key columns hold real numbers. -/
def RealRows (p : Vec Ideal S8192x5120 .f32) : Prop := ∀ (r : Fin 8192) (a : Fin 2048), ∃ x : ℝ, p (ix2 r ⟨a.val, by omega⟩) = (x : EReal)

variable (c : Dev nD) (hp : RealRows (m ((c : Thread nD τ).loc main_arg0)))
include hp

theorem q_real (t : Fin cfg0.N) (i : S256x1024.Idx) : ∃ x : ℝ, (iblk m c 0 t : Vec Ideal S256x1024 .f32) i = (x : EReal) := by
  have hi : (i 1).val < 1024 := (i 1).isLt
  obtain ⟨x, hx⟩ := hp ⟨t.val * 256 + (i 0).val, by have := pt_lt t; have : (i 0).val < 256 := (i 0).isLt; omega⟩ ⟨0 + (i 1).val, by omega⟩
  exact ⟨x, (congrArg (iblk m c 0 t : Vec Ideal S256x1024 .f32) (ix2_eta i).symm).trans ((q_blk m c t (i 0) (i 1)).trans hx)⟩

theorem k_real (t : Fin cfg0.N) (i : S256x1024.Idx) : ∃ x : ℝ, (iblk m c 1 t : Vec Ideal S256x1024 .f32) i = (x : EReal) := by
  have hi : (i 1).val < 1024 := (i 1).isLt
  obtain ⟨x, hx⟩ := hp ⟨t.val * 256 + (i 0).val, by have := pt_lt t; have : (i 0).val < 256 := (i 0).isLt; omega⟩ ⟨1024 + (i 1).val, by omega⟩
  exact ⟨x, (congrArg (iblk m c 1 t : Vec Ideal S256x1024 .f32) (ix2_eta i).symm).trans ((k_blk m c t (i 0) (i 1)).trans hx)⟩

theorem final_q : (dats m 0 c).arrAt 4 cfg0.N = fun i => entry (m ((c : Thread nD τ).loc main_arg0)) (m ((c : Thread nD τ).loc main_arg1)) 0 (by decide) i
    * ((8⁻¹ * (Real.log 2)⁻¹ : ℝ) : EReal) := by
  refine (dats m 0 c).arrAt_eq_of_covers 4 _ (by decide +kernel) fun t hf y => ?_
  blk_simp
  rw [after0_4]
  refine (congrArg _ (ix2_eta y).symm).trans ((q_block _ _ _ _ (q_real m c hp t) (ix2 (y 0) (y 1))).trans ?_)
  refine congrArg (fun v : EReal => v * _) ((entry_of _ _ 0 (by decide) _ _ t.val (pt_lt t) (q_blk m c t) (gq_blk m c t) (y 0) (y 1)).trans (congrArg _ ?_))
  blk_ext [idx4 t]

theorem final_k : (dats m 0 c).arrAt 5 cfg0.N = entry (m ((c : Thread nD τ).loc main_arg0)) (m ((c : Thread nD τ).loc main_arg2)) 1024 (by decide) := by
  refine (dats m 0 c).arrAt_eq_of_covers 5 _ (by decide +kernel) fun t hf y => ?_
  blk_simp
  rw [after0_5]
  refine (congrArg _ (ix2_eta y).symm).trans ((k_block' _ _ _ _ (k_real m c hp t) (ix2 (y 0) (y 1))).trans ?_)
  refine (entry_of _ _ 1024 (by decide) _ _ t.val (pt_lt t) (k_blk m c t) (gk_blk m c t) (y 0) (y 1)).trans (congrArg _ ?_)
  blk_ext [idx5 t]

theorem final_state : (dats m 0 c).arrAt 6 cfg0.N = entry (m ((c : Thread nD τ).loc main_arg0)) (m ((c : Thread nD τ).loc main_arg2)) 1024 (by decide) := by
  refine (dats m 0 c).arrAt_eq_of_covers 6 _ (by decide +kernel) fun t hf y => ?_
  blk_simp
  rw [after0_6]
  refine (congrArg _ (ix2_eta y).symm).trans ((k_block _ _ _ _ (k_real m c hp t) (ix2 (y 0) (y 1))).trans ?_)
  refine (entry_of _ _ 1024 (by decide) _ _ t.val (pt_lt t) (k_blk m c t) (gk_blk m c t) (y 0) (y 1)).trans (congrArg _ ?_)
  blk_ext [idx6 t]

end Cert.PrepIdeal.Value

end
-- ==== Proof.PrepV.Ref.lean ====
/-
  The preparation's reference read at an index.
-/
module

public import proofs.«01_k».proof.Proof.PrepV.Array
public import proofs.«01_k».proof.Proof.AttnV.Consts
public import proofs.«01_k».proof.Proof.Gen.PrepRefIdeal.Run

@[expose] public section

noncomputable section

namespace Cert.Proof.Prep

open Idealize.ShloMosaic Idealize.ShloMosaic.TcCoe Idealize.SL.Sem
open Cert.PrepRefIdeal Cert.PrepRefIdeal.Gen
open Cert.PrepIdeal.Value (entry unit)
open scoped BigOperators

variable (p : FVec Ideal S8192x5120 .f32) (gq gk : FVec Ideal S64 .f32)

theorem sixty_four : Ideal.ofBits .f32 0x42800000#32 = ((64 : ℝ) : EReal) := by
  simp [Ideal.ofBits, Ideal.ieee, -EReal.coe_mul]; norm_num

theorem part : Ideal.ofBits .f32 0x3C800000#32 = (((64 : ℝ)⁻¹ : ℝ) : EReal) := by
  simp [Ideal.ofBits, Ideal.ieee, -EReal.coe_mul]; norm_num

theorem eighth : Ideal.ofBits .f32 0x3E000000#32 = (((8 : ℝ)⁻¹ : ℝ) : EReal) := by
  simp [Ideal.ofBits, Ideal.ieee, -EReal.coe_mul]; norm_num

theorem mean_eq (s : EReal) : Ideal.div s (Ideal.ofBits .f32 0x42800000#32) = s * Ideal.ofBits .f32 0x3C800000#32 := by
  rw [sixty_four, part, Ideal.div_coe (by norm_num)]
  norm_num

theorem group_place (j : Nat) : j / 128 * 128 + j / 64 % 2 * 64 = j / 64 * 64 := by omega

/-- The reference's keys of the state. -/
theorem ref_state : (shapeCast S8192x1024 (mulf (mulf (shapeCast S8192x8x2x64 (extractStridedSlice S8192x1024 ![0, 1024] p slices_S8192x5120_S8192x1024_0_1024) shapeCasts_S8192x1024_S8192x8x2x64) (broadcastInDim S8192x8x2x64 ![0, 1, 2, 3] bcast_S8192x8x2x1_S8192x8x2x64_0_1_2_3 (Host.rsqrt (addf (Host.divf (broadcastInDim S8192x8x2x1 ![0, 1, 2] bcast_S8192x8x2_S8192x8x2x1_0_1_2 (Host.reduceAdd (mulf (shapeCast S8192x8x2x64 (extractStridedSlice S8192x1024 ![0, 1024] p slices_S8192x5120_S8192x1024_0_1024) shapeCasts_S8192x1024_S8192x8x2x64) (shapeCast S8192x8x2x64 (extractStridedSlice S8192x1024 ![0, 1024] p slices_S8192x5120_S8192x1024_0_1024) shapeCasts_S8192x1024_S8192x8x2x64)) (constant S_ .f32 0x00000000#32) reducesTo_S8192x8x2x64_S8192x8x2_d3 h_S_)) (broadcastInDim S8192x8x2x1 ![] bcast_S_S8192x8x2x1 (constant S_ .f32 0x42800000#32))) (broadcastInDim S8192x8x2x1 ![] bcast_S_S8192x8x2x1 (constant S_ .f32 0x358637BD#32)))))) (broadcastInDim S8192x8x2x64 ![0, 1, 2, 3] bcast_S1x1x1x64_S8192x8x2x64_0_1_2_3 (broadcastInDim S1x1x1x64 ![3] bcast_S64_S1x1x1x64_3 gk))) shapeCasts_S8192x8x2x64_S8192x1024 : FVec Ideal S8192x1024 .f32) = entry p gk 1024 (by decide) := by
  funext i
  obtain ⟨r, j, rfl⟩ : ∃ (r : Fin 8192) (j : Fin 1024), i = ix2 r j := ⟨i 0, i 1, (ix2_eta i).symm⟩
  pointwise [entry, unit]
  simp only [group_place, mean_eq]

/-- The reference's queries. -/
theorem ref_q : (truncf .bf16 (shapeCast S8192x1024 (Host.divf (mulf (mulf (mulf (shapeCast S8192x8x2x64 (extractStridedSlice S8192x1024 ![0, 0] p slices_S8192x5120_S8192x1024_0_0) shapeCasts_S8192x1024_S8192x8x2x64) (broadcastInDim S8192x8x2x64 ![0, 1, 2, 3] bcast_S8192x8x2x1_S8192x8x2x64_0_1_2_3 (Host.rsqrt (addf (Host.divf (broadcastInDim S8192x8x2x1 ![0, 1, 2] bcast_S8192x8x2_S8192x8x2x1_0_1_2 (Host.reduceAdd (mulf (shapeCast S8192x8x2x64 (extractStridedSlice S8192x1024 ![0, 0] p slices_S8192x5120_S8192x1024_0_0) shapeCasts_S8192x1024_S8192x8x2x64) (shapeCast S8192x8x2x64 (extractStridedSlice S8192x1024 ![0, 0] p slices_S8192x5120_S8192x1024_0_0) shapeCasts_S8192x1024_S8192x8x2x64)) (constant S_ .f32 0x00000000#32) reducesTo_S8192x8x2x64_S8192x8x2_d3 h_S_)) (broadcastInDim S8192x8x2x1 ![] bcast_S_S8192x8x2x1 (constant S_ .f32 0x42800000#32))) (broadcastInDim S8192x8x2x1 ![] bcast_S_S8192x8x2x1 (constant S_ .f32 0x358637BD#32)))))) (broadcastInDim S8192x8x2x64 ![0, 1, 2, 3] bcast_S1x1x1x64_S8192x8x2x64_0_1_2_3 (broadcastInDim S1x1x1x64 ![3] bcast_S64_S1x1x1x64_3 gq))) (broadcastInDim S8192x8x2x64 ![] bcast_S_S8192x8x2x64 (constant S_ .f32 0x3E000000#32))) (broadcastInDim S8192x8x2x64 ![] bcast_S_S8192x8x2x64 (Host.log (constant S_ .f32 0x40000000#32)))) shapeCasts_S8192x8x2x64_S8192x1024) bitsLt_bf16_f32 : FVec Ideal S8192x1024 .bf16)
    = fun i => entry p gq 0 (by decide) i * ((8⁻¹ * (Real.log 2)⁻¹ : ℝ) : EReal) := by
  funext i
  obtain ⟨r, j, rfl⟩ : ∃ (r : Fin 8192) (j : Fin 1024), i = ix2 r j := ⟨i 0, i 1, (ix2_eta i).symm⟩
  pointwise [entry, unit]
  simp only [group_place, mean_eq]
  rw [AttnRow.log_two, eighth, Ideal.div_coe (Real.log_pos (by norm_num)).ne', mul_assoc, ← EReal.coe_mul, one_div]

end Cert.Proof.Prep

end
-- ==== Proof.PrepV.Pre.lean ====
/-
  The precondition read: the query and key columns of the projected rows are real numbers.
-/
module

public import proofs.«01_k».proof.Defs
public import proofs.«01_k».proof.Proof.PrepV.Array
public import proofs.«01_k».proof.Proof.AttnV.Pre

@[expose] public section

noncomputable section

namespace Cert.Pre_finite_rows

open Idealize.ShloMosaic

/-- The shape relations of the precondition's operations. -/
instance facts : Facts where
  slices_S8192x5120_S8192x2048_0_0 := by decide
  bcast_S_S8192x2048 := by decide
  reducesTo_S8192x2048_S_d0_1 := by decide
  h_S_ := by decide

end Cert.Pre_finite_rows

namespace Cert.Proof.Prep

open Idealize.ShloMosaic Cert.Pre_finite_rows
open Cert.PrepIdeal.Value (RealRows)

theorem rows_real {p : FVec Ideal S8192x5120 .f32} {gq gk : FVec Ideal S64 .f32} (h : fn (F := Ideal) p gq gk = fun _ => 1#1) :
    RealRows p := fun r a => by
  have : Subsingleton S_.Idx := ⟨fun a b => funext fun d => d.elim0⟩
  obtain ⟨x, hx⟩ : ∃ x : ℝ, extractStridedSlice S8192x2048 ![0, 0] p Facts.slices_S8192x5120_S8192x2048_0_0 (ix2 r a) = (x : EReal) :=
    AttnRow.real_of_lt (Host.reduce_andi_all _ _ _ _ _ (congrFun h ix0) (ix2 r a))
  refine ⟨x, Eq.trans (congrArg p ?_) hx⟩
  blk_ext
  · rfl
  · rfl

end Cert.Proof.Prep

end
-- ==== Proof.PrepV.Claims.lean ====
/-
  The claims about the preparation of queries and keys.
-/
module

public import proofs.«01_k».proof.Defs
public import proofs.«01_k».proof.Proof.Gen.Prep.Frame
public import proofs.«01_k».proof.Proof.PrepV.Ref
public import proofs.«01_k».proof.Proof.PrepV.Pre
public import Idealize.ShloMosaic.Lib.Quiescent

@[expose] public section

noncomputable section

namespace Cert.PrepIdeal.Value

open Cert.PrepIdeal Cert.PrepIdeal.Gen Idealize.ShloMosaic Idealize.ShloMosaic.TcCoe Idealize.SL.Sem

variable (m : (ℓ : Loc nD τ sig) → Buf (Elt Ideal) ℓ) (ρ : Dev nD → PrngReg)

/-- The values' columns, as the region finds them. -/
theorem V_values (c : Dev nD) : V m c main_v0
    = extractStridedSlice S8192x1024 ![0, 2048] (m ((c : Thread nD τ).loc main_arg0)) slices_S8192x5120_S8192x1024_0_2048 := by
  entry_read
  rfl

/-- The run with all four results named. -/
theorem run_all : θ_run defs (onTc (τ := τ) (main (F := Ideal))) ⟨m, fun _ => 0, ρ⟩ fun r => ∀ c : Dev nD,
      r.2.mem ((c : Thread nD τ).loc main_v9_0) = (dats m 0 c).arrAt 4 cfg0.N
      ∧ r.2.mem ((c : Thread nD τ).loc main_v9_1) = (dats m 0 c).arrAt 5 cfg0.N
      ∧ r.2.mem ((c : Thread nD τ).loc main_v9_2) = (dats m 0 c).arrAt 6 cfg0.N
      ∧ r.2.mem ((c : Thread nD τ).loc main_v0)
        = extractStridedSlice S8192x1024 ![0, 2048] (m ((c : Thread nD τ).loc main_arg0)) slices_S8192x5120_S8192x1024_0_2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c, post5 m r h c, post6 m r h c,
      ((h c).2 main_v0 (Pipeline.mem_restRefs_of main_v0 (by decide) (by decide))).trans (V_values m c),
      kept_main_arg0 m r h c, kept_main_arg1 m r h c, kept_main_arg2 m r h c⟩)
    (run_main m ρ)

end Cert.PrepIdeal.Value

namespace Cert.Proof.Prep

open Idealize.ShloMosaic Idealize.ShloMosaic.TcCoe Idealize.SL.Sem

theorem frame_p : Cert.quiescent_Prep := fun m ρ _ => Cert.Prep.Gen.frame m ρ
theorem frame_pi : Cert.quiescent_PrepIdeal := fun m ρ _ => Cert.PrepIdeal.Gen.frame m ρ
theorem frame_pi_pre : Cert.quiescent_PrepIdeal_pre_finite_rows := fun m ρ _ => Cert.PrepIdeal.Gen.frame m ρ
theorem frame_ri : Cert.quiescent_PrepRefIdeal := fun m ρ _ =>
  (θ_run Cert.PrepRefIdeal.defs _ _).mono (fun r h => ⟨fun c => (h c).2.2.2.2,
      Idealize.ShloMosaic.sem_eq_zero_of_no_sems (by decide) r.2⟩)
    (Cert.PrepRefIdeal.Value.run (F := Ideal) m ρ)
theorem frame_ri_pre : Cert.quiescent_PrepRefIdeal_pre_finite_rows := fun m ρ _ => frame_ri m ρ trivial

/-- The folded scale is the number it stands for. -/
theorem preserves : Cert.preserves_Prep_PrepIdeal :=
  IdealRules.named_const.statement Cert.PrepIdeal.κ "q_scale" .f32 0x3E38AA3B#32 ((8⁻¹ * (Real.log 2)⁻¹ : ℝ) : EReal) rfl

/-- Where the query and key columns are finite, the kernel's results and the reference's are the same functions of the arguments. -/
theorem algebraic : Cert.algebraic_PrepIdeal_PrepRefIdeal_pre_finite_rows := by
  intro m ρ m' ρ' hpre hagree
  refine ⟨_, _, _, _, Cert.PrepIdeal.Value.run_all m ρ, ?_⟩
  refine (θ_run Cert.PrepRefIdeal.defs _ _).mono (fun _ h c => ⟨(h c).1.trans ?_, (h c).2.1.trans ?_, (h c).2.2.1.trans ?_,
    (h c).2.2.2.1.trans ?_, (h c).2.2.2.2⟩) (Cert.PrepRefIdeal.Value.run (F := Ideal) m' ρ')
  all_goals
    obtain ⟨h0, h1, h2⟩ := hagree c
    have hp := rows_real (hpre c)
  · rw [h0, h1]
    exact (ref_q _ _).trans (Cert.PrepIdeal.Value.final_q m c hp).symm
  · rw [h0, h2]
    exact (ref_state _ _).trans (Cert.PrepIdeal.Value.final_k m c hp).symm
  · rw [h0, h2]
    exact (ref_state _ _).trans (Cert.PrepIdeal.Value.final_state m c hp).symm
  · rw [h0]

end Cert.Proof.Prep

end
-- ==== Proof.FfnPV.Block.lean ====
/-
  One grid point of the prompt's feed-forward launch: what the carried block and the result block hold after it, as the body's
  own expressions over the input blocks, and those expressions read at an index as sums of products.
-/
module

public import proofs.«01_k».proof.Proof.Gen.FfnPIdeal.Value
public import Idealize.ShloMosaic.Lib.Pipeline.ValueKit
public import Idealize.ShloMosaic.Lib.Pointwise
public import Idealize.ShloMosaic.Lib.Pipeline.ReadBack

@[expose] public section

noncomputable section

namespace Cert.FfnPIdeal.Value

open Cert.FfnPIdeal Cert.FfnPIdeal.Gen Idealize.ShloMosaic Idealize.ShloMosaic.TcCoe Idealize.SL.Sem
open scoped BigOperators

/-- Nothing minus a value is its negation, at the infinities too. -/
theorem zero_sub_eq (x : EReal) : 0 - x = -x := by rw [sub_eq_add_neg, zero_add]

/-- The gate's product with its own logistic function. -/
def swish (g : EReal) : EReal := g * Ideal.div 1 (1 + Ideal.exp (-g))

/-- What a block of 512 hidden columns adds to the carried block at an index. -/
def part (h : Vec Ideal S512x2048 .bf16) (wg wu : Vec Ideal S2048x512 .bf16) (wd : Vec Ideal S512x2048 .bf16)
    (y : S512x2048.Idx) : EReal :=
  ∑ k : Fin 512, swish (∑ a : Fin 2048, h (ix2 (y 0) a) * wg (ix2 a k)) * (∑ a : Fin 2048, h (ix2 (y 0) a) * wu (ix2 a k))
    * wd (ix2 k (y 1))

theorem pay1_apply (y : S512x2048.Idx) : k0_pay1 (F := Ideal) y = 0 := by
  pointwise [k0_pay1]

theorem pay2_apply (h : Vec Ideal S512x2048 .bf16) (wg wu : Vec Ideal S2048x512 .bf16) (acc : Vec Ideal S512x2048 .f32)
    (wd : Vec Ideal S512x2048 .bf16) (y : S512x2048.Idx) :
    k0_pay2 (F := Ideal) h wg wu acc wd y = acc y + part h wg wu wd y := by
  pointwise [k0_pay2, part, swish]
  simp only [zero_sub_eq]

theorem pay3_apply (x : Vec Ideal S512x2048 .f32) (g : Vec Ideal S1x1x2048 .f32) (acc : Vec Ideal S512x2048 .f32) (y : S512x2048.Idx) :
    k0_pay3 (F := Ideal) x g acc y = x y + g (ix3 0 0 (y 1)) * acc y := by
  pointwise [k0_pay3]

variable (m : (ℓ : Loc nD τ sig) → Buf (Elt Ideal) ℓ)

theorem carried_A (c : Dev nD) (t : Fin cfg0.N) (h : t.val % 11 = 0) :
    (outsAt0 m c t.val t.isLt).2 = k0_pay2 (F := Ideal) (iblk m c 0 t) (iblk m c 2 t) (iblk m c 3 t) (k0_pay1 (F := Ideal)) (iblk m c 4 t) := by
  rw [outsAt0_A m c t h (by omega)]
  frame_out

theorem carried_B (c : Dev nD) (t : Fin cfg0.N) (h : ¬t.val % 11 = 0) :
    (outsAt0 m c t.val t.isLt).2 = k0_pay2 (F := Ideal) (iblk m c 0 t) (iblk m c 2 t) (iblk m c 3 t)
      (outsAt0 m c (t.val - 1) (Nat.lt_of_le_of_lt (Nat.sub_le _ _) t.isLt)).2 (iblk m c 4 t) := by
  by_cases h1 : t.val % 11 = 10
  · rw [outsAt0_C m c t h h1]
    frame_out
    rw [read_unread_whole]
  · rw [outsAt0_B m c t h h1]
    frame_out
    rw [read_unread_whole]

theorem written (c : Dev nD) (t : Fin cfg0.N) (h : t.val % 11 = 10) :
    (outsAt0 m c t.val t.isLt).1 = k0_pay3 (F := Ideal) (iblk m c 1 t) (iblk m c 5 t) (outsAt0 m c t.val t.isLt).2 := by
  rw [carried_B m c t (by omega), outsAt0_C m c t (by omega) h]
  frame_out
  rw [read_unread_whole]

end Cert.FfnPIdeal.Value

end
-- ==== Proof.FfnPV.Array.lean ====
/-
  The result array of the prompt's feed-forward launch: the eleven points of a row block add up, so an element is its old value plus
  the gate row's entry times a sum over all 5632 hidden columns.
-/
module

public import proofs.«01_k».proof.Proof.FfnPV.Block

@[expose] public section

noncomputable section

namespace Cert.FfnPIdeal.Value

open Cert.FfnPIdeal Cert.FfnPIdeal.Gen Idealize.ShloMosaic Idealize.ShloMosaic.TcCoe Idealize.SL.Sem
open scoped BigOperators

/-- The layer's second half at token `i 0` and channel `i 1`: the residual plus the modulation's sixth part times the
    projected product of the gated and the plain hidden columns. -/
def ffn (h : Vec Ideal S8192x2048 .bf16) (x : Vec Ideal S8192x2048 .f32) (wg wu : Vec Ideal S2048x5632 .f32)
    (wd : Vec Ideal S5632x2048 .f32) (md : Vec Ideal S16x12288 .f32) (i : S8192x2048.Idx) : EReal :=
  have hj : (i 1).val < 2048 := (i 1).isLt
  x i + md (ix2 0 ⟨10240 + (i 1).val, by omega⟩)
    * ∑ l : Fin 5632, swish (∑ a : Fin 2048, h (ix2 (i 0) a) * wg (ix2 a l)) * (∑ a : Fin 2048, h (ix2 (i 0) a) * wu (ix2 a l))
        * wd (ix2 l (i 1))

theorem idx0 : ∀ t : Fin cfg0.N, win0_0.index t = ![t.val / 11, 0] := (by decide +kernel : ∀ t : Fin grid0.N, _)
theorem idx1 : ∀ t : Fin cfg0.N, win0_1.index t = ![t.val / 11, 0] := (by decide +kernel : ∀ t : Fin grid0.N, _)
theorem idx2 : ∀ t : Fin cfg0.N, win0_2.index t = ![0, t.val % 11] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![t.val % 11, 0] := (by decide +kernel : ∀ t : Fin grid0.N, _)
theorem idx5 : ∀ t : Fin cfg0.N, win0_5.index t = ![5, 0, 0] := (by decide +kernel : ∀ t : Fin grid0.N, _)
theorem idx6 : ∀ t : Fin cfg0.N, win0_6.index t = ![t.val / 11, 0] := (by decide +kernel : ∀ t : Fin grid0.N, _)

variable (m : (ℓ : Loc nD τ sig) → Buf (Elt Ideal) ℓ)

/-- What the carried block holds when a row block's last point is done. -/
theorem carried_eq (c : Dev nD) (t : Fin cfg0.N) (hr : t.val % 11 = 10) (y : S512x2048.Idx) :
    (outsAt0 m c t.val t.isLt).2 y = ∑ s : Fin 11,
      (fun (p : Fin cfg0.N) => part (iblk m c 0 p) (iblk m c 2 p) (iblk m c 3 p) (iblk m c 4 p) y)
        ⟨11 * (t.val / 11) + s.val, Pipeline.run_point_lt_of_flush t hr s⟩ := by
  rw [Pipeline.eq_sum_fin_of_reset_step_apply_of_flush (fun n h => (outsAt0 m c n h).2) 11 (fun _ => 0)
    (fun p y => part (iblk m c 0 p) (iblk m c 2 p) (iblk m c 3 p) (iblk m c 4 p) y)
    (fun t h i => by rw [carried_A m c t h, pay2_apply, pay1_apply])
    (fun t h i => by rw [carried_B m c t h, pay2_apply]) t hr y, zero_add]

/-- The gate row's block: the first row of the modulation, its sixth part. -/
theorem gate_blk (c : Dev nD) (t : Fin cfg0.N) (j : Fin 2048) :
    iblk m c 5 t (ix3 0 0 j) = m ((c : Thread nD τ).loc main_arg5)
      (ix2 0 ⟨10240 + j.val, by omega⟩) := by
  blk_simp [iblk]
  entry_read
  pointwise
  blk_ext [idx5 t]

theorem final (c : Dev nD) : (dats m 0 c).arrAt 6 cfg0.N
    = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have hr : t.val % 11 = 10 := (flush0_6 t).mp hf
  blk_simp
  rw [after0_6, written m c t hr, pay3_apply, carried_eq m c t hr]
  unfold ffn
  refine congrArg₂ (· + ·) ?_ (congrArg₂ (· * ·) ?_ ?_)
  · blk_ext! [iblk, V, idx1 t, idx6 t]
  · rw [gate_blk m c t (y 1)]
    blk_ext [idx6 t]
  · refine Fin.sum_mul_add_congr fun s k hl => ?_
    dsimp only [part, swish]
    blk_point [iblk, V, idx0 ⟨_, Pipeline.run_point_lt_of_flush t hr s⟩, idx2 ⟨_, Pipeline.run_point_lt_of_flush t hr s⟩,
      idx3 ⟨_, Pipeline.run_point_lt_of_flush t hr s⟩, idx4 ⟨_, Pipeline.run_point_lt_of_flush t hr s⟩, idx6 t]

end Cert.FfnPIdeal.Value

end
-- ==== Proof.FfnPV.Claims.lean ====
/-
  The reference of the prompt's feed-forward launch read at an index, and the launch's claims.
-/
module

public import proofs.«01_k».proof.Defs
public import proofs.«01_k».proof.Proof.FfnPV.Array
public import proofs.«01_k».proof.Proof.Gen.FfnP.Frame
public import proofs.«01_k».proof.Proof.Gen.FfnPRefIdeal.Run
public import Idealize.ShloMosaic.Lib.Quiescent

@[expose] public section

noncomputable section

namespace Cert.Proof.FfnP

open Idealize.ShloMosaic Idealize.ShloMosaic.TcCoe Idealize.SL.Sem
open Cert.FfnPRefIdeal Cert.FfnPRefIdeal.Gen
open scoped BigOperators

/-- The reference's result is the layer's second half, element by element. -/
theorem ref_eq (h : FVec Ideal S8192x2048 .bf16) (x : FVec Ideal S8192x2048 .f32) (wg wu : FVec Ideal S2048x5632 .f32)
    (wd : FVec Ideal S5632x2048 .f32) (md : FVec Ideal S16x12288 .f32) :
    (shapeCast S8192x2048 (addf (shapeCast S32x256x2048 x shapeCasts_S8192x2048_S32x256x2048) (mulf (broadcastInDim S32x256x2048 ![0, 1, 2] bcast_S1x1x2048_S32x256x2048_0_1_2 (broadcastInDim S1x1x2048 ![0, 2] bcast_S1x2048_S1x1x2048_0_2 (extractStridedSlice S1x2048 ![0, 10240] md slices_S16x12288_S1x2048_0_10240))) (Host.dotGeneral dot_S32x256x5632_S5632x2048_S32x256x2048_2_0_01_1_n_n none (mulf (mulf (Host.dotGeneral dot_S32x256x2048_S2048x5632_S32x256x5632_2_0_01_1_n_n none (shapeCast _ (extf .f32 h bitsLt_bf16_f32) shapeCasts_S8192x2048_S32x256x2048) wg) (Host.divf (broadcastInDim S32x256x5632 ![] bcast_S_S32x256x5632 (constant S_ .f32 0x3F800000#32)) (addf (broadcastInDim S32x256x5632 ![] bcast_S_S32x256x5632 (constant S_ .f32 0x3F800000#32)) (Host.exp (Host.negf (Host.dotGeneral dot_S32x256x2048_S2048x5632_S32x256x5632_2_0_01_1_n_n none (shapeCast _ (extf .f32 h bitsLt_bf16_f32) shapeCasts_S8192x2048_S32x256x2048) wg)))))) (Host.dotGeneral dot_S32x256x2048_S2048x5632_S32x256x5632_2_0_01_1_n_n none (shapeCast _ (extf .f32 h bitsLt_bf16_f32) shapeCasts_S8192x2048_S32x256x2048) wu)) wd))) shapeCasts_S32x256x2048_S8192x2048 : FVec Ideal S8192x2048 .f32) = Cert.FfnPIdeal.Value.ffn h x wg wu wd md := by
  funext i
  pointwise [Cert.FfnPIdeal.Value.ffn, Cert.FfnPIdeal.Value.swish]

theorem frame_p : Cert.quiescent_FfnP := fun m ρ _ => Cert.FfnP.Gen.frame m ρ
theorem frame_pi : Cert.quiescent_FfnPIdeal := fun m ρ _ => Cert.FfnPIdeal.Gen.frame m ρ
theorem frame_ri : Cert.quiescent_FfnPRefIdeal := fun m ρ _ =>
  (θ_run Cert.FfnPRefIdeal.defs _ _).mono (fun r h => ⟨fun c => (h c).2,
      Idealize.ShloMosaic.sem_eq_zero_of_no_sems (by decide) r.2⟩)
    (Cert.FfnPRefIdeal.Value.run (F := Ideal) m ρ)

/-- No operation of the kernel was replaced by another. -/
theorem preserves : Cert.preserves_FfnP_FfnPIdeal := trivial

/-- The kernel's result array and the reference's result are one function of the arguments. -/
theorem algebraic : Cert.algebraic_FfnPIdeal_FfnPRefIdeal := by
  intro m ρ m' ρ' _ hagree
  refine ⟨fun c => (Cert.FfnPIdeal.Gen.dats m 0 c).arrAt 6 Cert.FfnPIdeal.cfg0.N, Cert.FfnPIdeal.Value.run_blocks (F := Ideal) m ρ, ?_⟩
  refine (θ_run Cert.FfnPRefIdeal.defs _ _).mono (fun _ h c => ⟨(h c).1.trans ?_, (h c).2⟩)
    (Cert.FfnPRefIdeal.Value.run (F := Ideal) m' ρ')
  obtain ⟨h0, h1, h2, h3, h4, h5⟩ := hagree c
  rw [h0, h1, h2, h3, h4, h5]
  exact (ref_eq _ _ _ _ _ _).trans (Cert.FfnPIdeal.Value.final m c).symm

end Cert.Proof.FfnP

end
-- ==== Proof.lean ====
module

public import proofs.«01_k».proof.Defs
public import proofs.«01_k».proof.Proof.AttnV.Claims
public import proofs.«01_k».proof.Proof.FfnV.Claims
public import proofs.«01_k».proof.Proof.InProjV.Claims
public import proofs.«01_k».proof.Proof.OutProjV.Claims
public import proofs.«01_k».proof.Proof.PrepV.Claims
public import proofs.«01_k».proof.Proof.FfnPV.Claims

@[expose] public section

noncomputable section

namespace Cert.Proof

open Idealize.ShloMosaic Idealize.SL.Sem

theorem claim : Cert.Claim := ⟨Cert.Attn.Gen.facts, Cert.AttnIdeal.Gen.facts, Cert.AttnRefIdeal.Gen.facts, Cert.Ffn.Gen.facts,
  Cert.FfnIdeal.Gen.facts, Cert.FfnRefIdeal.Gen.facts, Cert.InProj.Gen.facts, Cert.InProjIdeal.Gen.facts,
  Cert.InProjRefIdeal.Gen.facts, Cert.OutProj.Gen.facts, Cert.OutProjIdeal.Gen.facts, Cert.OutProjRefIdeal.Gen.facts,
  Cert.Prep.Gen.facts, Cert.PrepIdeal.Gen.facts, Cert.PrepRefIdeal.Gen.facts, Cert.FfnP.Gen.facts, Cert.FfnPIdeal.Gen.facts,
  Cert.FfnPRefIdeal.Gen.facts, Cert.Pre_finite_values.facts, Cert.Pre_finite_rows.facts,
  Attn.frame_p, Attn.frame_pi, Attn.frame_pi_pre, Attn.frame_ri, Attn.frame_ri_pre, Ffn.frame_p, Ffn.frame_pi, Ffn.frame_ri, InProj.frame_p, InProj.frame_pi,
  InProj.frame_ri, OutProj.frame_p, OutProj.frame_pi, OutProj.frame_ri,
  Prep.frame_p, Prep.frame_pi, Prep.frame_pi_pre, Prep.frame_ri, Prep.frame_ri_pre, FfnP.frame_p, FfnP.frame_pi, FfnP.frame_ri,
  Attn.preserves, Attn.algebraic, Ffn.preserves, Ffn.algebraic,
  InProj.preserves, InProj.algebraic, OutProj.preserves, OutProj.algebraic, Prep.preserves, Prep.algebraic,
  FfnP.preserves, FfnP.algebraic⟩

end Cert.Proof

end
